-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "scale" .f32 0x3D3504F3#32 (((Real.sqrt 512)⁻¹ : ℝ) : EReal)
  ∧ IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x1024x512 : Shape := ⟨3, ![8, 1024, 512]⟩
abbrev S8x1024x1024 : Shape := ⟨3, ![8, 1024, 1024]⟩
abbrev S8x512x512 : Shape := ⟨3, ![8, 512, 512]⟩
abbrev S8x512 : Shape := ⟨2, ![8, 512]⟩
abbrev S512x4096 : Shape := ⟨2, ![512, 4096]⟩
abbrev S512 : Shape := ⟨1, ![512]⟩
abbrev S_ : Shape := ⟨0, ![]⟩
abbrev S8x1024 : Shape := ⟨2, ![8, 1024]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S512x4096 : S_.BroadcastsInDim S512x4096 (![] : Fin 0 → Fin S512x4096.rank)
  reducesTo_S512x4096_S_d0_1 : S512x4096.ReducesTo [0, 1] S_
  bcast_S_S8x512 : S_.BroadcastsInDim S8x512 (![] : Fin 0 → Fin S8x512.rank)
  reducesTo_S8x512_S_d0_1 : S8x512.ReducesTo [0, 1] S_
  bcast_S_S8x1024x1024 : S_.BroadcastsInDim S8x1024x1024 (![] : Fin 0 → Fin S8x1024x1024.rank)
  reducesTo_S8x1024x1024_S8x1024_d2 : S8x1024x1024.ReducesTo [2] S8x1024
  reducesTo_S8x1024_S_d0_1 : S8x1024.ReducesTo [0, 1] S_

variable [Facts]

def fn_part3 {F : FTy → Type} [FloatOps F] (main_arg2 : IVec S8x1024x1024 32) (main_arg8 : FVec F S8x512 .f32) (main_v47 : IVec S_ 1) (main_v49 : IVec S8x512 1) : IVec S_ 1 :=
  let main_c_20 : IVec S_ 1 := constantI S_ 1 1#1
  let main_v50 : IVec S_ 1 := (fun x v => Host.reduce IntOp.andi x v reducesTo_S8x512_S_d0_1 h_S_) main_v49 main_c_20
  let main_cst_21 : FVec F S_ .f32 := constant S_ .f32 0x00000000#32
  let main_v51 : FVec F S8x512 .f32 := broadcastInDim S8x512 ![] bcast_S_S8x512 main_cst_21
  let main_v52 : IVec S8x512 1 := cmpf .oeq main_arg8 main_v51
  let main_c_22 : IVec S_ 1 := constantI S_ 1 1#1
  let main_v53 : IVec S_ 1 := (fun x v => Host.reduce IntOp.andi x v reducesTo_S8x512_S_d0_1 h_S_) main_v52 main_c_22
  let main_v54 : IVec S_ 1 := andi main_v50 main_v53
  let main_c_23 : IVec S_ 32 := constantI S_ 32 0#32
  let main_v55 : IVec S8x1024x1024 32 := broadcastInDim S8x1024x1024 ![] bcast_S_S8x1024x1024 main_c_23
  let main_v56 : IVec S8x1024x1024 1 := cmpi .ne main_arg2 main_v55
  let main_c_24 : IVec S_ 1 := constantI S_ 1 0#1
  let main_v57 : IVec S8x1024 1 := (fun x v => Host.reduce IntOp.ori x v reducesTo_S8x1024x1024_S8x1024_d2 h_S_) main_v56 main_c_24
  let main_c_25 : IVec S_ 1 := constantI S_ 1 1#1
  let main_v58 : IVec S_ 1 := (fun x v => Host.reduce IntOp.andi x v reducesTo_S8x1024_S_d0_1 h_S_) main_v57 main_c_25
  let main_v59 : IVec S_ 1 := andi main_v47 main_v54
  let main_v60 : IVec S_ 1 := andi main_v59 main_v58
  main_v60

def fn_part2 {F : FTy → Type} [FloatOps F] (main_arg2 : IVec S8x1024x1024 32) (main_arg4 : FVec F S8x512 .f32) (main_arg6 : FVec F S8x512 .f32) (main_arg8 : FVec F S8x512 .f32) (main_arg9 : FVec F S512x4096 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S512x4096 .f32 := broadcastInDim S512x4096 ![] bcast_S_S512x4096 main_cst_13
  let main_v35 : IVec S512x4096 1 := cmpf .olt main_arg9 main_v34
  let main_cst_14 : FVec F S_ .f32 := constant S_ .f32 0xFF800000#32
  let main_v36 : FVec F S512x4096 .f32 := broadcastInDim S512x4096 ![] bcast_S_S512x4096 main_cst_14
  let main_v37 : IVec S512x4096 1 := cmpf .ogt main_arg9 main_v36
  let main_v38 : IVec S512x4096 1 := andi main_v35 main_v37
  let main_c_15 : IVec S_ 1 := constantI S_ 1 1#1
  let main_v39 : IVec S_ 1 := (fun x v => Host.reduce IntOp.andi x v reducesTo_S512x4096_S_d0_1 h_S_) main_v38 main_c_15
  let main_v40 : IVec S_ 1 := andi main_v33 main_v39
  let main_cst_16 : FVec F S_ .f32 := constant S_ .f32 0x7F800000#32
  let main_v41 : FVec F S8x512 .f32 := broadcastInDim S8x512 ![] bcast_S_S8x512 main_cst_16
  let main_v42 : IVec S8x512 1 := cmpf .olt main_arg6 main_v41
  let main_cst_17 : FVec F S_ .f32 := constant S_ .f32 0xFF800000#32
  let main_v43 : FVec F S8x512 .f32 := broadcastInDim S8x512 ![] bcast_S_S8x512 main_cst_17
  let main_v44 : IVec S8x512 1 := cmpf .ogt main_arg6 main_v43
  let main_v45 : IVec S8x512 1 := andi main_v42 main_v44
  let main_c_18 : IVec S_ 1 := constantI S_ 1 1#1
  let main_v46 : IVec S_ 1 := (fun x v => Host.reduce IntOp.andi x v reducesTo_S8x512_S_d0_1 h_S_) main_v45 main_c_18
  let main_v47 : IVec S_ 1 := andi main_v40 main_v46
  let main_cst_19 : FVec F S_ .f32 := constant S_ .f32 0x00000000#32
  let main_v48 : FVec F S8x512 .f32 := broadcastInDim S8x512 ![] bcast_S_S8x512 main_cst_19
  let main_v49 : IVec S8x512 1 := cmpf .oeq main_arg4 main_v48
  fn_part3 (F := F) main_arg2 main_arg8 main_v47 main_v49

def fn_part1 {F : FTy → Type} [FloatOps F] (main_arg2 : IVec S8x1024x1024 32) (main_arg3 : FVec F S8x512x512 .f32) (main_arg4 : FVec F S8x512 .f32) (main_arg5 : FVec F S8x512x512 .f32) (main_arg6 : FVec F S8x512 .f32) (main_arg7 : FVec F S8x512x512 .f32) (main_arg8 : FVec F S8x512 .f32) (main_arg9 : FVec F S512x4096 .f32) (main_v12 : IVec S_ 1) (main_v14 : IVec S8x512x512 1) (main_v15 : FVec F S8x512x512 .f32) : IVec S_ 1 :=
  let main_v16 : IVec S8x512x512 1 := cmpf .ogt main_arg3 main_v15
  let main_v17 : IVec S8x512x512 1 := andi main_v14 main_v16
  let main_c_6 : IVec S_ 1 := constantI S_ 1 1#1
  let main_v18 : IVec S_ 1 := (fun x v => Host.reduce IntOp.andi x v reducesTo_S8x512x512_S_d0_1_2 h_S_) main_v17 main_c_6
  let main_v19 : IVec S_ 1 := andi main_v12 main_v18
  let main_cst_7 : FVec F S_ .f32 := constant S_ .f32 0x7F800000#32
  let main_v20 : FVec F S8x512x512 .f32 := broadcastInDim S8x512x512 ![] bcast_S_S8x512x512 main_cst_7
  let main_v21 : IVec S8x512x512 1 := cmpf .olt main_arg5 main_v20
  let main_cst_8 : FVec F S_ .f32 := constant S_ .f32 0xFF800000#32
  let main_v22 : FVec F S8x512x512 .f32 := broadcastInDim S8x512x512 ![] bcast_S_S8x512x512 main_cst_8
  let main_v23 : IVec S8x512x512 1 := cmpf .ogt main_arg5 main_v22
  let main_v24 : IVec S8x512x512 1 := andi main_v21 main_v23
  let main_c_9 : IVec S_ 1 := constantI S_ 1 1#1
  let main_v25 : IVec S_ 1 := (fun x v => Host.reduce IntOp.andi x v reducesTo_S8x512x512_S_d0_1_2 h_S_) main_v24 main_c_9
  let main_v26 : IVec S_ 1 := andi main_v19 main_v25
  let main_cst_10 : FVec F S_ .f32 := constant S_ .f32 0x7F800000#32
  let main_v27 : FVec F S8x512x512 .f32 := broadcastInDim S8x512x512 ![] bcast_S_S8x512x512 main_cst_10
  let main_v28 : IVec S8x512x512 1 := cmpf .olt main_arg7 main_v27
  let main_cst_11 : FVec F S_ .f32 := constant S_ .f32 0xFF800000#32
  let main_v29 : FVec F S8x512x512 .f32 := broadcastInDim S8x512x512 ![] bcast_S_S8x512x512 main_cst_11
  let main_v30 : IVec S8x512x512 1 := cmpf .ogt main_arg7 main_v29
  let main_v31 : IVec S8x512x512 1 := andi main_v28 main_v30
  let main_c_12 : IVec S_ 1 := constantI S_ 1 1#1
  let main_v32 : IVec S_ 1 := (fun x v => Host.reduce IntOp.andi x v reducesTo_S8x512x512_S_d0_1_2 h_S_) main_v31 main_c_12
  fn_part2 (F := F) main_arg2 main_arg4 main_arg6 main_arg8 main_arg9 main_v26 main_v32

def fn {F : FTy → Type} [FloatOps F] (main_arg0 : FVec F S8x1024x512 .f32) (main_arg1 : FVec F S8x1024x512 .f32) (main_arg2 : IVec S8x1024x1024 32) (main_arg3 : FVec F S8x512x512 .f32) (main_arg4 : FVec F S8x512 .f32) (main_arg5 : FVec F S8x512x512 .f32) (main_arg6 : FVec F S8x512 .f32) (main_arg7 : FVec F S8x512x512 .f32) (main_arg8 : FVec F S8x512 .f32) (main_arg9 : FVec F S512x4096 .f32) (main_arg10 : FVec F S512 .f32) : IVec S_ 1 :=
  let main_cst : FVec F S_ .f32 := constant S_ .f32 0x7F800000#32
  let main_v0 : FVec F S8x1024x512 .f32 := broadcastInDim S8x1024x512 ![] bcast_S_S8x1024x512 main_cst
  let main_v1 : IVec S8x1024x512 1 := cmpf .olt main_arg0 main_v0
  let main_cst_0 : FVec F S_ .f32 := constant S_ .f32 0xFF800000#32
  let main_v2 : FVec F S8x1024x512 .f32 := broadcastInDim S8x1024x512 ![] bcast_S_S8x1024x512 main_cst_0
  let main_v3 : IVec S8x1024x512 1 := cmpf .ogt main_arg0 main_v2
  let main_v4 : IVec S8x1024x512 1 := andi main_v1 main_v3
  let main_c : IVec S_ 1 := constantI S_ 1 1#1
  let main_v5 : IVec S_ 1 := (fun x v => Host.reduce IntOp.andi x v reducesTo_S8x1024x512_S_d0_1_2 h_S_) main_v4 main_c
  let main_cst_1 : FVec F S_ .f32 := constant S_ .f32 0x7F800000#32
  let main_v6 : FVec F S8x1024x512 .f32 := broadcastInDim S8x1024x512 ![] bcast_S_S8x1024x512 main_cst_1
  let main_v7 : IVec S8x1024x512 1 := cmpf .olt main_arg1 main_v6
  let main_cst_2 : FVec F S_ .f32 := constant S_ .f32 0xFF800000#32
  let main_v8 : FVec F S8x1024x512 .f32 := broadcastInDim S8x1024x512 ![] bcast_S_S8x1024x512 main_cst_2
  let main_v9 : IVec S8x1024x512 1 := cmpf .ogt main_arg1 main_v8
  let main_v10 : IVec S8x1024x512 1 := andi main_v7 main_v9
  let main_c_3 : IVec S_ 1 := constantI S_ 1 1#1
  let main_v11 : IVec S_ 1 := (fun x v => Host.reduce IntOp.andi x v reducesTo_S8x1024x512_S_d0_1_2 h_S_) main_v10 main_c_3
  let main_v12 : IVec S_ 1 := andi main_v5 main_v11
  let main_cst_4 : FVec F S_ .f32 := constant S_ .f32 0x7F800000#32
  let main_v13 : FVec F S8x512x512 .f32 := broadcastInDim S8x512x512 ![] bcast_S_S8x512x512 main_cst_4
  let main_v14 : IVec S8x512x512 1 := cmpf .olt main_arg3 main_v13
  let main_cst_5 : FVec F S_ .f32 := constant S_ .f32 0xFF800000#32
  let main_v15 : FVec F S8x512x512 .f32 := broadcastInDim S8x512x512 ![] bcast_S_S8x512x512 main_cst_5
  fn_part1 (F := F) main_arg2 main_arg3 main_arg4 main_arg5 main_arg6 main_arg7 main_arg8 main_arg9 main_v12 main_v14 main_v15
-- ==== Kernel.lean ====
abbrev S8x1024x512 : Shape := ⟨3, ![8, 1024, 512]⟩
abbrev S8x1024x1024 : Shape := ⟨3, ![8, 1024, 1024]⟩
abbrev S8x512x512 : Shape := ⟨3, ![8, 512, 512]⟩
abbrev S8x512 : Shape := ⟨2, ![8, 512]⟩
abbrev S512x4096 : Shape := ⟨2, ![512, 4096]⟩
abbrev S512 : Shape := ⟨1, ![512]⟩
abbrev S1x512 : Shape := ⟨2, ![1, 512]⟩
abbrev S1x512x512 : Shape := ⟨3, ![1, 512, 512]⟩
abbrev S512x512 : Shape := ⟨2, ![512, 512]⟩
abbrev S1x1024x512 : Shape := ⟨3, ![1, 1024, 512]⟩
abbrev S1x1024x1024 : Shape := ⟨3, ![1, 1024, 1024]⟩
abbrev S1024x512 : Shape := ⟨2, ![1024, 512]⟩
abbrev S256x512 : Shape := ⟨2, ![256, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x256x512 : Shape := ⟨3, ![1, 256, 512]⟩

abbrev nBuf : Space → Nat
  | .hbm => 15
  | .vmem => 23
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x1024, .i32⟩
  | .hbm, ⟨3, _⟩ => ⟨S8x512x512, .f32⟩
  | .hbm, ⟨4, _⟩ => ⟨S8x512, .f32⟩
  | .hbm, ⟨5, _⟩ => ⟨S8x512x512, .f32⟩
  | .hbm, ⟨6, _⟩ => ⟨S8x512, .f32⟩
  | .hbm, ⟨7, _⟩ => ⟨S8x512x512, .f32⟩
  | .hbm, ⟨8, _⟩ => ⟨S8x512, .f32⟩
  | .hbm, ⟨9, _⟩ => ⟨S512x4096, .f32⟩
  | .hbm, ⟨10, _⟩ => ⟨S512, .f32⟩
  | .hbm, ⟨11, _⟩ => ⟨S1x512, .f32⟩
  | .hbm, ⟨12, _⟩ => ⟨S8x512x512, .bf16⟩
  | .hbm, ⟨13, _⟩ => ⟨S8x512x512, .bf16⟩
  | .hbm, ⟨14, _⟩ => ⟨S8x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x1024, .i32⟩
  | .local _ .vmem, ⟨17, _⟩ => ⟨S1x1024x1024, .i32⟩
  | .local _ .vmem, ⟨18, _⟩ => ⟨S8x512x512, .bf16⟩
  | .local _ .vmem, ⟨19, _⟩ => ⟨S8x512x512, .bf16⟩
  | .local _ .vmem, ⟨20, _⟩ => ⟨S1x512, .f32⟩
  | .local _ .vmem, ⟨21, _⟩ => ⟨S1x1024x512, .f32⟩
  | .local _ .vmem, ⟨22, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | "scale" => some (((Real.sqrt 512)⁻¹ : ℝ) : EReal)
  | _ => none
-- ==== ReferenceIdeal.lean ====
abbrev S8x1024x512 : Shape := ⟨3, ![8, 1024, 512]⟩
abbrev S8x1024x1024 : Shape := ⟨3, ![8, 1024, 1024]⟩
abbrev S8x512x512 : Shape := ⟨3, ![8, 512, 512]⟩
abbrev S8x512 : Shape := ⟨2, ![8, 512]⟩
abbrev S512x4096 : Shape := ⟨2, ![512, 4096]⟩
abbrev S512 : Shape := ⟨1, ![512]⟩
abbrev S8x512x8x1024 : Shape := ⟨4, ![8, 512, 8, 1024]⟩
abbrev S8x8x1024x512 : Shape := ⟨4, ![8, 8, 1024, 512]⟩
abbrev S8x1x512 : Shape := ⟨3, ![8, 1, 512]⟩
abbrev S1x8x1x512 : Shape := ⟨4, ![1, 8, 1, 512]⟩
abbrev S8x8x1024x1024 : Shape := ⟨4, ![8, 8, 1024, 1024]⟩
abbrev S_ : Shape := ⟨0, ![]⟩
abbrev S8x1x1024x1024 : Shape := ⟨4, ![8, 1, 1024, 1024]⟩
abbrev S8x8x1024 : Shape := ⟨3, ![8, 8, 1024]⟩
abbrev S8x8x1024x1 : Shape := ⟨4, ![8, 8, 1024, 1]⟩
abbrev S8x1024x8x512 : Shape := ⟨4, ![8, 1024, 8, 512]⟩
abbrev S8x1024x4096 : Shape := ⟨3, ![8, 1024, 4096]⟩
abbrev S4096x512 : Shape := ⟨2, ![4096, 512]⟩
abbrev S1x1x512 : Shape := ⟨3, ![1, 1, 512]⟩

abbrev nBuf : Space → Nat
  | .hbm => 64
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x1024, .i32⟩
  | .hbm, ⟨3, _⟩ => ⟨S8x512x512, .f32⟩
  | .hbm, ⟨4, _⟩ => ⟨S8x512, .f32⟩
  | .hbm, ⟨5, _⟩ => ⟨S8x512x512, .f32⟩
  | .hbm, ⟨6, _⟩ => ⟨S8x512, .f32⟩
  | .hbm, ⟨7, _⟩ => ⟨S8x512x512, .f32⟩
  | .hbm, ⟨8, _⟩ => ⟨S8x512, .f32⟩
  | .hbm, ⟨9, _⟩ => ⟨S512x4096, .f32⟩
  | .hbm, ⟨10, _⟩ => ⟨S512, .f32⟩
  | .hbm, ⟨11, _⟩ => ⟨S8x512x8x1024, .f32⟩
  | .hbm, ⟨12, _⟩ => ⟨S8x8x1024x512, .f32⟩
  | .hbm, ⟨13, _⟩ => ⟨S8x1x512, .f32⟩
  | .hbm, ⟨14, _⟩ => ⟨S1x8x1x512, .f32⟩
  | .hbm, ⟨15, _⟩ => ⟨S8x8x1024x512, .f32⟩
  | .hbm, ⟨16, _⟩ => ⟨S8x8x1024x512, .f32⟩
  | .hbm, ⟨17, _⟩ => ⟨S8x512x8x1024, .f32⟩
  | .hbm, ⟨18, _⟩ => ⟨S8x8x1024x512, .f32⟩
  | .hbm, ⟨19, _⟩ => ⟨S8x1x512, .f32⟩
  | .hbm, ⟨20, _⟩ => ⟨S1x8x1x512, .f32⟩
  | .hbm, ⟨21, _⟩ => ⟨S8x8x1024x512, .f32⟩
  | .hbm, ⟨22, _⟩ => ⟨S8x8x1024x512, .f32⟩
  | .hbm, ⟨23, _⟩ => ⟨S8x512x8x1024, .f32⟩
  | .hbm, ⟨24, _⟩ => ⟨S8x8x1024x512, .f32⟩
  | .hbm, ⟨25, _⟩ => ⟨S8x1x512, .f32⟩
  | .hbm, ⟨26, _⟩ => ⟨S1x8x1x512, .f32⟩
  | .hbm, ⟨27, _⟩ => ⟨S8x8x1024x512, .f32⟩
  | .hbm, ⟨28, _⟩ => ⟨S8x8x1024x512, .f32⟩
  | .hbm, ⟨29, _⟩ => ⟨S8x8x1024x1024, .f32⟩
  | .hbm, ⟨30, _⟩ => ⟨S_, .f32⟩
  | .hbm, ⟨31, _⟩ => ⟨S_, .f32⟩
  | .hbm, ⟨32, _⟩ => ⟨S8x8x1024x1024, .f32⟩
  | .hbm, ⟨33, _⟩ => ⟨S8x8x1024x1024, .f32⟩
  | .hbm, ⟨34, _⟩ => ⟨S8x1x1024x1024, .i32⟩
  | .hbm, ⟨35, _⟩ => ⟨S_, .i32⟩
  | .hbm, ⟨36, _⟩ => ⟨S8x1x1024x1024, .i32⟩
  | .hbm, ⟨37, _⟩ => ⟨S8x1x1024x1024, .i1⟩
  | .hbm, ⟨38, _⟩ => ⟨S_, .f32⟩
  | .hbm, ⟨39, _⟩ => ⟨S8x8x1024x1024, .i1⟩
  | .hbm, ⟨40, _⟩ => ⟨S8x8x1024x1024, .f32⟩
  | .hbm, ⟨41, _⟩ => ⟨S8x8x1024x1024, .f32⟩
  | .hbm, ⟨42, _⟩ => ⟨S_, .f32⟩
  | .hbm, ⟨43, _⟩ => ⟨S8x8x1024, .f32⟩
  | .hbm, ⟨44, _⟩ => ⟨S_, .f32⟩
  | .hbm, ⟨45, _⟩ => ⟨S8x8x1024, .f32⟩
  | .hbm, ⟨46, _⟩ => ⟨S8x8x1024, .f32⟩
  | .hbm, ⟨47, _⟩ => ⟨S8x8x1024x1, .f32⟩
  | .hbm, ⟨48, _⟩ => ⟨S8x8x1024x1024, .f32⟩
  | .hbm, ⟨49, _⟩ => ⟨S8x8x1024x1024, .f32⟩
  | .hbm, ⟨50, _⟩ => ⟨S8x8x1024x1024, .f32⟩
  | .hbm, ⟨51, _⟩ => ⟨S_, .f32⟩
  | .hbm, ⟨52, _⟩ => ⟨S8x8x1024, .f32⟩
  | .hbm, ⟨53, _⟩ => ⟨S8x8x1024x1, .f32⟩
  | .hbm, ⟨54, _⟩ => ⟨S8x8x1024x1024, .f32⟩
  | .hbm, ⟨55, _⟩ => ⟨S8x8x1024x1024, .f32⟩
  | .hbm, ⟨56, _⟩ => ⟨S8x8x1024x512, .f32⟩
  | .hbm, ⟨57, _⟩ => ⟨S8x1024x8x512, .f32⟩
  | .hbm, ⟨58, _⟩ => ⟨S8x1024x4096, .f32⟩
  | .hbm, ⟨59, _⟩ => ⟨S4096x512, .f32⟩
  | .hbm, ⟨60, _⟩ => ⟨S8x1024x512, .f32⟩
  | .hbm, ⟨61, _⟩ => ⟨S1x1x512, .f32⟩
  | .hbm, ⟨62, _⟩ => ⟨S8x1024x512, .f32⟩
  | .hbm, ⟨63, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Launch.lean ====
/- The run of the whole program, with the array it returns: the launch over the three segments, read at the
   returned buffer as well as at the arguments. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends with the returned array holding what the second grid loop has written
    back, and with the arguments as launched. -/
theorem value_run : θ_run defs (onTc (τ := τ) (main (F := F))) ⟨m, fun _ => 0, ρ⟩ (fun r => ∀ c : Dev nD,
      r.2.mem ((c.tc : Thread nD τ).loc main_v2) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.Gen

end
-- ==== Proof.Consts.lean ====
/- The literals of the two programs at their real values. -/
module

public import proofs.«01_k».proof.KernelIdeal
public import Idealize.ShloMosaic.PureOps.Ideal.Laws
public import Idealize.ShloMosaic.PureOps.IdealRules

@[expose] public section

noncomputable section

namespace Cert.Consts

open Idealize.ShloMosaic

/-- The mask filler is minus infinity. -/
theorem mask_eq : (Named.named (F := Ideal) (φ := .f32) Cert.KernelIdeal.κ "mask" 0xF149F2CA#32 : EReal) = ⊥ :=
  IdealRules.named_const.ideal_named_scalar _ _ _ _ rfl

/-- The scale is one over the square root of 512. -/
theorem scale_eq : (Named.named (F := Ideal) (φ := .f32) Cert.KernelIdeal.κ "scale" 0x3D3504F3#32 : EReal) = (((Real.sqrt 512)⁻¹ : ℝ) : EReal) :=
  IdealRules.named_const.ideal_named_scalar _ _ _ _ rfl

/-- The reference's literal 512. -/
theorem bits_512 : Ideal.ofBits .f32 0x44000000#32 = ((512 : ℝ) : EReal) := by
  simp [Ideal.ofBits, Ideal.ieee, -EReal.coe_mul]; norm_num

/-- The reference's mask filler. -/
theorem bits_bot : Ideal.ofBits .f32 0xFF800000#32 = ⊥ := by
  simp [Ideal.ofBits, Ideal.ieee]

/-- Plus infinity. -/
theorem bits_top : Ideal.ofBits .f32 0x7F800000#32 = ⊤ := by
  simp [Ideal.ofBits, Ideal.ieee]

end Cert.Consts

end
-- ==== Proof.Pre.lean ====
/- What the precondition says: every entry of the arrays it names is a real, the queries' and the values' biases are zero,
   and every query sees some key. -/
module

public import proofs.«01_k».proof.Pre_inputs_ok
public import proofs.«01_k».proof.Proof.Consts
public import Idealize.ShloMosaic.Lib.ReduceAll
public import Idealize.ShloMosaic.Lib.Pointwise

@[expose] public section

set_option maxRecDepth 16384

noncomputable section

namespace Cert.Pre_inputs_ok

open Idealize.ShloMosaic

/-- The shape relations the predicate states. -/
instance facts : Facts where
  bcast_S_S8x1024x512 := by decide
  reducesTo_S8x1024x512_S_d0_1_2 := by decide
  h_S_ := by decide
  bcast_S_S8x512x512 := by decide
  reducesTo_S8x512x512_S_d0_1_2 := by decide
  bcast_S_S512x4096 := by decide
  reducesTo_S512x4096_S_d0_1 := by decide
  bcast_S_S8x512 := by decide
  reducesTo_S8x512_S_d0_1 := by decide
  bcast_S_S8x1024x1024 := by decide
  reducesTo_S8x1024x1024_S8x1024_d2 := by decide
  reducesTo_S8x1024_S_d0_1 := by decide

/-- An extended real strictly between the infinities is a real. -/
theorem real_of_between (x : EReal) (ht : Ideal.cmp .olt x (Ideal.ofBits .f32 0x7F800000#32) = 1#1)
    (hb : Ideal.cmp .ogt x (Ideal.ofBits .f32 0xFF800000#32) = 1#1) : ∃ r : ℝ, x = (r : EReal) := by
  rw [Cert.Consts.bits_top] at ht
  rw [Cert.Consts.bits_bot] at hb
  induction x with
  | bot => simp [Ideal.cmp] at hb
  | top => simp [Ideal.cmp] at ht
  | coe r => exact ⟨r, rfl⟩

/-- A pair of comparisons that holds everywhere leaves only reals. -/
theorem reals_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (andi (cmpf .olt x (broadcastInDim s ![] hb (constant (F := Ideal) S_ .f32 0x7F800000#32)))
      (cmpf .ogt x (broadcastInDim s ![] hb (constant (F := Ideal) S_ .f32 0xFF800000#32)))) (constantI S_ 1 1#1) hr hu j = 1#1) (i : s.Idx) :
    ∃ r : ℝ, x i = (r : EReal) := by
  obtain ⟨h1, h2⟩ := IntOp.andi_eq_one.1 (Host.reduce_andi_all _ _ _ _ j h i)
  exact real_of_between _ h1 h2

/-- A comparison with zero that holds everywhere leaves only zeros. -/
theorem zeros_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .oeq x (broadcastInDim s ![] hb (constant (F := Ideal) S_ .f32 0x00000000#32))) (constantI S_ 1 1#1)
      hr hu j = 1#1) (i : s.Idx) : x i = (0 : EReal) := by
  have h1 : Ideal.cmp .oeq (x i) (Ideal.ofBits .f32 0x00000000#32) = 1#1 := Host.reduce_andi_all _ _ _ _ j h i
  have h0 : Ideal.ofBits .f32 0x00000000#32 = 0 := by simp [Ideal.ofBits, Ideal.ieee]
  rw [h0] at h1
  by_contra hne
  have hne' : ¬ x i = (0 : EReal) := hne
  simp [Ideal.cmp, hne'] at h1

/-- A left fold by `or` from zero that came out one met a one. -/
theorem foldl_ori {ι : Type} (f : ι → BitVec 1) :
    ∀ (l : List ι) (a : BitVec 1), l.foldl (fun r n => IntOp.ori r (f n)) a = 1#1 → a = 1#1 ∨ ∃ n ∈ l, f n = 1#1
  | [], _, h => Or.inl h
  | n :: l, a, h => by
    rcases foldl_ori f l _ h with h1 | ⟨k, hk, h2⟩
    · rcases IntOp.ori_eq_one.1 h1 with h3 | h3
      · exact Or.inl h3
      · exact Or.inr ⟨n, List.mem_cons_self .., h3⟩
    · exact Or.inr ⟨k, List.mem_cons_of_mem _ hk, h2⟩

/-- A query row with a nonzero mask word somewhere sees a key. -/
theorem sees_of_any (mk : IVec S8x1024x1024 32) (hb : S_.BroadcastsInDim S8x1024x1024 (![] : Fin 0 → Fin S8x1024x1024.rank))
    (hr : S8x1024x1024.ReducesTo [2] S8x1024) (hu : 0 < S_.numel) (b : Fin 8) (q : Fin 1024)
    (h : Host.reduce IntOp.ori (cmpi .ne mk (broadcastInDim S8x1024x1024 ![] hb (constantI S_ 32 0#32))) (constantI S_ 1 0#1) hr hu
      (ix2 b q) = 1#1) : ∃ k : Fin 1024, ¬ mk (ix3 b q k) = 0#32 := by
  rw [Host.reduce_eq_foldl] at h
  rcases foldl_ori _ _ _ h with h1 | ⟨i, hi, h2⟩
  · exact absurd (show (0#1 : BitVec 1) = 1#1 from h1) (by decide)
  · rw [List.mem_filter] at hi
    have hd : hr.drop i = ix2 b q := by simpa using hi.2
    have h0 : i = ix3 b q (i 2) := funext fun a => match a with
      | 0 => congrFun hd 0
      | 1 => congrFun hd 1
      | 2 => rfl
    refine ⟨i 2, fun h3 => IntOp.cmpi_ne.1 h2 ?_⟩
    rw [h0]
    exact h3

/-- The precondition, read back. -/
theorem of_fn (x st : FVec Ideal S8x1024x512 .f32) (mk : IVec S8x1024x1024 32) (wq : FVec Ideal S8x512x512 .f32)
    (bq : FVec Ideal S8x512 .f32) (wk : FVec Ideal S8x512x512 .f32) (bk : FVec Ideal S8x512 .f32) (wv : FVec Ideal S8x512x512 .f32)
    (bv : FVec Ideal S8x512 .f32) (wp : FVec Ideal S512x4096 .f32) (bp : FVec Ideal S512 .f32)
    (h : fn (F := Ideal) x st mk wq bq wk bk wv bv wp bp = fun _ => 1#1) :
    ((∀ i, ∃ r : ℝ, x i = (r : EReal)) ∧ (∀ i, ∃ r : ℝ, st i = (r : EReal)) ∧ (∀ i, ∃ r : ℝ, wq i = (r : EReal)) ∧
      (∀ i, ∃ r : ℝ, wk i = (r : EReal)) ∧ (∀ i, ∃ r : ℝ, wv i = (r : EReal)) ∧ (∀ i, ∃ r : ℝ, wp i = (r : EReal)) ∧
      (∀ i, ∃ r : ℝ, bk i = (r : EReal))) ∧ ((∀ i, bq i = (0 : EReal)) ∧ ∀ i, bv i = (0 : EReal)) ∧
      ∀ (b : Fin 8) (q : Fin 1024), ∃ k : Fin 1024, ¬ mk (ix3 b q k) = 0#32 := by
  have e := congrFun h (Shape.Idx.first (by decide))
  obtain ⟨e, hm⟩ := IntOp.andi_eq_one.1 e
  obtain ⟨e, hz⟩ := IntOp.andi_eq_one.1 e
  obtain ⟨hbq, hbv⟩ := IntOp.andi_eq_one.1 hz
  obtain ⟨e, hbk⟩ := IntOp.andi_eq_one.1 e
  obtain ⟨e, hwp⟩ := IntOp.andi_eq_one.1 e
  obtain ⟨e, hwv⟩ := IntOp.andi_eq_one.1 e
  obtain ⟨e, hwk⟩ := IntOp.andi_eq_one.1 e
  obtain ⟨e, hwq⟩ := IntOp.andi_eq_one.1 e
  obtain ⟨hx, hst⟩ := IntOp.andi_eq_one.1 e
  exact ⟨⟨reals_of_all _ _ _ _ _ hx, reals_of_all _ _ _ _ _ hst, reals_of_all _ _ _ _ _ hwq, reals_of_all _ _ _ _ _ hwk,
    reals_of_all _ _ _ _ _ hwv, reals_of_all _ _ _ _ _ hwp, reals_of_all _ _ _ _ _ hbk⟩,
    ⟨zeros_of_all _ _ _ _ _ hbq, zeros_of_all _ _ _ _ _ hbv⟩,
    fun b q => sees_of_any _ _ _ _ b q (Host.reduce_andi_all _ _ _ _ _ hm (ix2 b q))⟩

end Cert.Pre_inputs_ok

end
-- ==== Proof.RefRead.lean ====
/- The reference read at an index, operation by operation. -/
module

public import proofs.«01_k».proof.Proof.Gen.ReferenceIdeal.Read
public import proofs.«01_k».proof.Proof.Consts
public import Idealize.ShloMosaic.Lib.Pointwise

@[expose] public section

set_option maxRecDepth 16384

noncomputable section

namespace Cert.ReferenceIdeal.Read

open Idealize.ShloMosaic Idealize.SL.Sem

variable (x st : Vec Ideal S8x1024x512 .f32) (mk : Vec Ideal S8x1024x1024 .i32) (wq : Vec Ideal S8x512x512 .f32)
  (bq : Vec Ideal S8x512 .f32) (wk : Vec Ideal S8x512x512 .f32) (bk : Vec Ideal S8x512 .f32) (wv : Vec Ideal S8x512x512 .f32)
  (bv : Vec Ideal S8x512 .f32) (wp : Vec Ideal S512x4096 .f32) (bp : Vec Ideal S512 .f32)

/-- A projected query. -/
theorem query_apply (b h : Fin 8) (q : Fin 1024) (d : Fin 512) :
    val_main_v5 (F := Ideal) x wq bq (ix4 b h q d) = (∑ e : Fin 512, wq (ix3 h d e) * x (ix3 b q e)) + bq (ix2 h d) := by
  pointwise [val_main_v5, val_main_v4, val_main_v3, val_main_v2, val_main_v1, val_main_v0]

/-- A projected key. -/
theorem key_apply (b h : Fin 8) (k : Fin 1024) (d : Fin 512) :
    val_main_v11 (F := Ideal) st wk bk (ix4 b h k d) = (∑ e : Fin 512, wk (ix3 h d e) * st (ix3 b k e)) + bk (ix2 h d) := by
  pointwise [val_main_v11, val_main_v10, val_main_v9, val_main_v8, val_main_v7, val_main_v6]

/-- A projected value. -/
theorem value_apply (b h : Fin 8) (k : Fin 1024) (d : Fin 512) :
    val_main_v17 (F := Ideal) st wv bv (ix4 b h k d) = (∑ e : Fin 512, wv (ix3 h d e) * st (ix3 b k e)) + bv (ix2 h d) := by
  pointwise [val_main_v17, val_main_v16, val_main_v15, val_main_v14, val_main_v13, val_main_v12]

/-- A score. -/
theorem score_apply (b h : Fin 8) (q k : Fin 1024) :
    val_main_v21 (F := Ideal) x st wq bq wk bk (ix4 b h q k)
      = Ideal.div (∑ d : Fin 512, val_main_v5 (F := Ideal) x wq bq (ix4 b h q d) * val_main_v11 (F := Ideal) st wk bk (ix4 b h k d))
          (Ideal.sqrt ((512 : ℝ) : EReal)) := by
  pointwise [val_main_v21, val_main_v20, val_main_v19, val_main_cst, val_main_v18, Cert.Consts.bits_512]

/-- Choosing by whether an integer is zero. -/
theorem select_eq_zero (n : BitVec 32) (u v : EReal) :
    Scalar.select (IntOp.cmpi CmpIPredicate.eq n 0#32) u v = if n = 0#32 then u else v := by
  by_cases h : n = 0#32
  · rw [if_pos h, h]; rfl
  · rw [if_neg h, IntOp.cmpi, show (n == 0#32) = false from beq_eq_false_iff_ne.mpr h]; rfl

/-- A masked score. -/
theorem masked_apply (b h : Fin 8) (q k : Fin 1024) :
    val_main_v25 (F := Ideal) x st mk wq bq wk bk (ix4 b h q k)
      = if mk (ix3 b q k) = 0#32 then ⊥ else val_main_v21 (F := Ideal) x st wq bq wk bk (ix4 b h q k) := by
  rw [← select_eq_zero]
  pointwise [val_main_v25, val_main_call0_v0, val_main_call0_v1, val_main_v24, val_main_v23, val_main_v22, val_main_c, val_main_cst_0, Cert.Consts.bits_bot]

/-- The largest element of a row, as the reference folds it. -/
theorem rowmax_apply (v : FVec Ideal S8x8x1024x1024 .f32) (c : FVec Ideal S_ .f32) (b h : Fin 8) (q : Fin 1024) :
    Host.reduce FloatOps.maximumf v c Gen.reducesTo_S8x8x1024x1024_S8x8x1024_d3 Gen.h_S_ (ix3 b h q)
      = Finset.univ.fold max (c (Shape.Idx.first (by decide))) fun k : Fin 1024 => v (ix4 b h q k) := by
  pointwise

/-- The largest score of a query. -/
theorem max_apply (b h : Fin 8) (q : Fin 1024) :
    val_main_v28 (F := Ideal) x st mk wq bq wk bk (ix3 b h q)
      = Finset.univ.fold max ⊥ fun k : Fin 1024 => val_main_v25 (F := Ideal) x st mk wq bq wk bk (ix4 b h q k) := by
  rw [val_main_v28_apply, val_main_v26]
  generalize val_main_v25 (F := Ideal) x st mk wq bq wk bk = y
  rw [rowmax_apply, val_main_v27_apply, val_main_cst_2_apply, val_main_cst_1_apply]
  show max (Ideal.ofBits .f32 0xFF800000#32) (Finset.univ.fold max (Ideal.ofBits .f32 0xFF800000#32) _) = _
  rw [Cert.Consts.bits_bot]
  exact max_eq_right bot_le

/-- An exponential. -/
theorem exp_apply (b h : Fin 8) (q k : Fin 1024) :
    val_main_v32 (F := Ideal) x st mk wq bq wk bk (ix4 b h q k)
      = Ideal.exp (val_main_v25 (F := Ideal) x st mk wq bq wk bk (ix4 b h q k) - val_main_v28 (F := Ideal) x st mk wq bq wk bk (ix3 b h q)) := by
  pointwise [val_main_v32, val_main_v31, val_main_v30, val_main_v29]

/-- A softmax weight. -/
theorem weight_apply (b h : Fin 8) (q k : Fin 1024) :
    val_main_v36 (F := Ideal) x st mk wq bq wk bk (ix4 b h q k)
      = Ideal.div (val_main_v32 (F := Ideal) x st mk wq bq wk bk (ix4 b h q k))
          (∑ k : Fin 1024, val_main_v32 (F := Ideal) x st mk wq bq wk bk (ix4 b h q k)) := by
  pointwise [val_main_v36, val_main_v35, val_main_v34, val_main_v33, val_main_cst_3]

/-- A context entry. -/
theorem context_apply (b h : Fin 8) (q : Fin 1024) (d : Fin 512) :
    val_main_v37 (F := Ideal) x st mk wq bq wk bk wv bv (ix4 b h q d)
      = ∑ k : Fin 1024, val_main_v36 (F := Ideal) x st mk wq bq wk bk (ix4 b h q k) * val_main_v17 (F := Ideal) st wv bv (ix4 b h k d) := by
  pointwise [val_main_v37]

end Cert.ReferenceIdeal.Read

end
-- ==== Proof.RefResult.lean ====
/- The reference's result at an index: every head's context through its columns of the output projection. -/
module

public import proofs.«01_k».proof.Proof.RefRead

@[expose] public section

set_option maxRecDepth 16384

noncomputable section

namespace Cert.ReferenceIdeal.Read

open Idealize.ShloMosaic Idealize.SL.Sem

/-- A sum over the joined columns is the sum over heads and columns of a head. -/
theorem sum_columns (f : Fin 4096 → EReal) :
    ∑ k : Fin 4096, f k = ∑ h : Fin 8, ∑ d : Fin 512, f ⟨512 * h.val + d.val, by omega⟩ := by
  rw [← (finProdFinEquiv (m := 8) (n := 512)).sum_comp f, Fintype.sum_prod_type]
  refine Finset.sum_congr rfl fun h _ => Finset.sum_congr rfl fun d _ => congrArg f (Fin.ext ?_)
  show d.val + 512 * h.val = 512 * h.val + d.val
  omega

variable (x st : Vec Ideal S8x1024x512 .f32) (mk : Vec Ideal S8x1024x1024 .i32) (wq : Vec Ideal S8x512x512 .f32)
  (bq : Vec Ideal S8x512 .f32) (wk : Vec Ideal S8x512x512 .f32) (bk : Vec Ideal S8x512 .f32) (wv : Vec Ideal S8x512x512 .f32)
  (bv : Vec Ideal S8x512 .f32) (wp : Vec Ideal S512x4096 .f32) (bp : Vec Ideal S512 .f32)

/-- The joined contexts at a head's column. -/
theorem joined_apply (b : Fin 8) (q : Fin 1024) (j : Fin 512) (h : Fin 8) (d : Fin 512) :
    val_main_v39 (F := Ideal) x st mk wq bq wk bk wv bv (lidx_main_v41 (ix3 b q j) ⟨512 * h.val + d.val, by omega⟩)
      = val_main_v37 (F := Ideal) x st mk wq bq wk bk wv bv (ix4 b h q d) := by
  rw [val_main_v39_apply, val_main_v38_apply]
  generalize val_main_v37 (F := Ideal) x st mk wq bq wk bk wv bv = y
  refine congrArg y (funext fun i => Fin.ext ?_)
  match i with
  | 0 => show ((b.val * 1024 + q.val) * 4096 + (512 * h.val + d.val)) / 4194304 = b.val; omega
  | 1 => show ((b.val * 1024 + q.val) * 4096 + (512 * h.val + d.val)) / 512 % 8 = h.val; omega
  | 2 => show ((b.val * 1024 + q.val) * 4096 + (512 * h.val + d.val)) / 4096 % 1024 = q.val; omega
  | 3 => show ((b.val * 1024 + q.val) * 4096 + (512 * h.val + d.val)) % 512 = d.val; omega

/-- The output projection's transpose at a head's column. -/
theorem columns_apply (b : Fin 8) (q : Fin 1024) (j : Fin 512) (k : Fin 4096) :
    val_main_v40 (F := Ideal) wp (ridx_main_v41 (ix3 b q j) k) = wp (ix2 j k) := by
  rw [val_main_v40_apply]
  refine congrArg wp (funext fun i => Fin.ext ?_)
  match i with
  | 0 => rfl
  | 1 => rfl

/-- The spread bias at an index. -/
theorem bias_apply (b : Fin 8) (q : Fin 1024) (j : Fin 512) : val_main_v43 (F := Ideal) bp (ix3 b q j) = bp (ix1 j) := by
  rw [val_main_v43_apply, val_main_v42_apply]
  refine congrArg bp (funext fun i => Fin.ext ?_)
  match i with
  | 0 => rfl

/-- A result: the heads' contexts through the output projection, and the bias. -/
theorem result_apply (b : Fin 8) (q : Fin 1024) (j : Fin 512) :
    val_main_v44 (F := Ideal) x st mk wq bq wk bk wv bv wp bp (ix3 b q j)
      = (∑ h : Fin 8, ∑ d : Fin 512, val_main_v37 (F := Ideal) x st mk wq bq wk bk wv bv (ix4 b h q d)
          * wp (ix2 j ⟨512 * h.val + d.val, by omega⟩)) + bp (ix1 j) := by
  rw [val_main_v44_apply, bias_apply, val_main_v41_apply, sum_columns]
  simp only [joined_apply, columns_apply]
  rfl

end Cert.ReferenceIdeal.Read

end
-- ==== Proof.Softmax.lean ====
/- Softmax over extended reals: on a row of real scores, some hidden behind a mask, the reference's shifted and divided
   exponentials are the plain quotients of exponentials, and the kernel's are too. -/
module

public import Idealize.ShloMosaic.PureOps.Ideal.Laws

@[expose] public section

noncomputable section

namespace Cert.Softmax

open Idealize.ShloMosaic

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n : ℕ}

/-- A masked row: minus infinity where hidden, the score elsewhere. -/
def masked (hid : Fin n → Prop) [DecidablePred hid] (r : Fin n → ℝ) (k : Fin n) : EReal := if hid k then ⊥ else (r k : EReal)

/-- A masked exponential: zero where hidden. -/
def weight (hid : Fin n → Prop) [DecidablePred hid] (r : Fin n → ℝ) (k : Fin n) : ℝ := if hid k then 0 else Real.exp (r k)

variable (hid : Fin n → Prop) [DecidablePred hid] (r : Fin n → ℝ)

/-- The exponential of a masked row. -/
theorem exp_masked (k : Fin n) : Ideal.exp (masked hid r k) = (weight hid r k : EReal) := by
  unfold masked weight
  split_ifs with h
  · rfl
  · rfl

/-- The exponential of a masked row less a real. -/
theorem exp_masked_sub (c : ℝ) (k : Fin n) :
    Ideal.exp (masked hid r k - (c : EReal)) = (weight hid (fun k => r k - c) k : EReal) := by
  unfold masked weight
  split_ifs with h
  · rw [EReal.bot_sub]; rfl
  · rw [← EReal.coe_sub]; rfl

/-- Shifting every score scales every masked exponential. -/
theorem weight_sub (c : ℝ) (k : Fin n) : weight hid (fun k => r k - c) k = weight hid r k * Real.exp (-c) := by
  unfold weight
  split_ifs with h
  · rw [zero_mul]
  · rw [← Real.exp_add, ← sub_eq_add_neg]

/-- Masked exponentials are not negative. -/
theorem weight_nonneg (k : Fin n) : 0 ≤ weight hid r k := by
  unfold weight
  split_ifs
  · exact le_rfl
  · exact (Real.exp_pos _).le

variable (hs : ∃ k, ¬ hid k)
include hs

/-- The largest entry of a masked row that shows something is a real. -/
theorem max_real : ∃ c : ℝ, Finset.univ.fold max ⊥ (masked hid r) = (c : EReal) := by
  obtain ⟨k, hk⟩ := hs
  have hb : (Finset.univ.fold max ⊥ (masked hid r)) ≠ ⊥ := fun h => by
    have h1 : (r k : EReal) ≤ Finset.univ.fold max ⊥ (masked hid r) :=
      Finset.le_fold_max _ |>.mpr (Or.inr ⟨k, Finset.mem_univ _, by rw [masked, if_neg hk]⟩)
    rw [h] at h1
    exact EReal.coe_ne_bot _ (le_bot_iff.mp h1)
  have ht : (Finset.univ.fold max ⊥ (masked hid r)) ≠ ⊤ := ne_of_lt (Finset.fold_max_lt _ |>.mpr
    ⟨bot_lt_top, fun k _ => by unfold masked; split_ifs; exacts [bot_lt_top, EReal.coe_lt_top _]⟩)
  exact ⟨_, (EReal.coe_toReal ht hb).symm⟩

/-- The masked exponentials of a row that shows something have a positive sum. -/
theorem sum_pos : 0 < ∑ k, weight hid r k := by
  obtain ⟨k, hk⟩ := hs
  refine Finset.sum_pos' (fun k _ => weight_nonneg hid r k) ⟨k, Finset.mem_univ _, ?_⟩
  rw [weight, if_neg hk]
  exact Real.exp_pos _

/-- Softmax as the reference computes it, on a row that shows something. -/
theorem softmax_eq (k : Fin n) :
    Ideal.div (Ideal.exp (masked hid r k - Finset.univ.fold max ⊥ (masked hid r)))
        (∑ k, Ideal.exp (masked hid r k - Finset.univ.fold max ⊥ (masked hid r)))
      = ((weight hid r k / ∑ k, weight hid r k : ℝ) : EReal) := by
  obtain ⟨c, hc⟩ := max_real hid r hs
  have hp := sum_pos hid r hs
  have he := Real.exp_pos (-c)
  rw [hc]
  simp only [exp_masked_sub, weight_sub]
  rw [← coe_sum, ← Finset.sum_mul, Ideal.div_coe (by positivity), ← EReal.coe_mul]
  congr 1
  field_simp

/-- A shift common to a row leaves the quotients alone. -/
theorem quotient_add (c : ℝ) (k : Fin n) :
    weight hid (fun k => r k + c) k / ∑ k, weight hid (fun k => r k + c) k = weight hid r k / ∑ k, weight hid r k := by
  have hp := sum_pos hid r hs
  have he := Real.exp_pos c
  have hw : ∀ k, weight hid (fun k => r k + c) k = weight hid r k * Real.exp c := fun k => by
    have := weight_sub hid r (-c) k
    simpa using this
  simp only [hw]
  rw [← Finset.sum_mul]
  field_simp

end Cert.Softmax

end
-- ==== Proof.Attention.lean ====
/- The attention one batch entry computes, as the kernel arranges it, over extended reals: plain functions of a
   query row and an output column. -/
module

public import Idealize.ShloMosaic.PureOps.Ideal.Laws

@[expose] public section

noncomputable section

namespace Cert.Attention

open Idealize.ShloMosaic

/-- A head's score of query `q` against key `k`: the query through the combined matrix against the key, or minus
    infinity where the mask hides the key. -/
def score (X S : Fin 1024 → Fin 512 → EReal) (M : Fin 1024 → Fin 1024 → BitVec 32) (W : Fin 512 → Fin 512 → EReal)
    (q k : Fin 1024) : EReal :=
  if M q k = 0#32 then ⊥ else ∑ f : Fin 512, (∑ e : Fin 512, X q e * W e f) * S k f

/-- A head's contribution: the exponentials' weighted sum of the projected keys over the exponentials' sum. -/
def head (X S : Fin 1024 → Fin 512 → EReal) (M : Fin 1024 → Fin 1024 → BitVec 32) (W V : Fin 512 → Fin 512 → EReal)
    (q : Fin 1024) (d : Fin 512) : EReal :=
  (∑ k : Fin 1024, Ideal.exp (score X S M W q k) * ∑ e : Fin 512, S k e * V e d)
    * Ideal.div 1 (∑ k : Fin 1024, Ideal.exp (score X S M W q k))

/-- The eight heads' contributions added in order, the bias after the first. -/
def block (X S : Fin 1024 → Fin 512 → EReal) (M : Fin 1024 → Fin 1024 → BitVec 32)
    (W V : Fin 8 → Fin 512 → Fin 512 → EReal) (b : Fin 512 → EReal) (q : Fin 1024) (d : Fin 512) : EReal :=
  head X S M (W 0) (V 0) q d + b d + head X S M (W 1) (V 1) q d + head X S M (W 2) (V 2) q d
    + head X S M (W 3) (V 3) q d + head X S M (W 4) (V 4) q d + head X S M (W 5) (V 5) q d
    + head X S M (W 6) (V 6) q d + head X S M (W 7) (V 7) q d

/-- The block is the sum of the heads' contributions and the bias. -/
theorem block_eq_sum (X S : Fin 1024 → Fin 512 → EReal) (M : Fin 1024 → Fin 1024 → BitVec 32)
    (W V : Fin 8 → Fin 512 → Fin 512 → EReal) (b : Fin 512 → EReal) (q : Fin 1024) (d : Fin 512) :
    block X S M W V b q d = (∑ h : Fin 8, head X S M (W h) (V h) q d) + b d := by
  simp only [block, Fin.sum_univ_eight]
  ac_rfl

end Cert.Attention

end
-- ==== Proof.HeadEq.lean ====
/- One head, both ways: the kernel's scores through the combined score matrix and values through the combined value
   matrix, and the reference's queries, keys, values, softmax and output projection, over real inputs. -/
module

public import proofs.«01_k».proof.Proof.Softmax
public import proofs.«01_k».proof.Proof.Attention

@[expose] public section

noncomputable section

namespace Cert.HeadEq

open Idealize.ShloMosaic Cert.Softmax

section Reals

variable {D E F K : ℕ}

/-- A score by the combined matrix. -/
def kscore (X : Fin E → ℝ) (S : Fin K → Fin E → ℝ) (Wq Wk : Fin D → Fin E → ℝ) (c : ℝ) (k : Fin K) : ℝ :=
  ∑ f, (∑ e, X e * ((∑ d, Wq d e * Wk d f) * c)) * S k f

/-- A score by queries and keys, the keys with a bias. -/
def rscore (X : Fin E → ℝ) (S : Fin K → Fin E → ℝ) (Wq Wk : Fin D → Fin E → ℝ) (B : Fin D → ℝ) (c : ℝ) (k : Fin K) : ℝ :=
  (∑ d, (∑ e, Wq d e * X e) * ((∑ f, Wk d f * S k f) + B d)) * c

/-- The keys' bias adds one number to every score of a query. -/
theorem rscore_eq (X : Fin E → ℝ) (S : Fin K → Fin E → ℝ) (Wq Wk : Fin D → Fin E → ℝ) (B : Fin D → ℝ) (c : ℝ) (k : Fin K) :
    rscore X S Wq Wk B c k = kscore X S Wq Wk c k + (∑ d, (∑ e, Wq d e * X e) * B d) * c := by
  unfold rscore kscore
  simp only [mul_add, Finset.sum_add_distrib, add_mul]
  congr 1
  simp only [Finset.sum_mul, Finset.mul_sum]
  rw [Finset.sum_comm]
  refine Finset.sum_congr rfl fun f _ => ?_
  rw [Finset.sum_comm]
  refine Finset.sum_congr rfl fun e _ => Finset.sum_congr rfl fun d _ => ?_
  ring

/-- Values through the combined matrix are values through the value weights and then the output's. -/
theorem values_eq (P : Fin K → ℝ) (S : Fin K → Fin E → ℝ) (Wv : Fin D → Fin E → ℝ) (Wp : Fin D → ℝ) :
    ∑ d, (∑ k, P k * ∑ e, Wv d e * S k e) * Wp d = ∑ k, P k * ∑ e, S k e * ∑ d, Wv d e * Wp d := by
  simp only [Finset.sum_mul, Finset.mul_sum]
  rw [Finset.sum_comm]
  refine Finset.sum_congr rfl fun k _ => ?_
  rw [Finset.sum_comm]
  refine Finset.sum_congr rfl fun e _ => Finset.sum_congr rfl fun d _ => ?_
  ring

end Reals

section Extended

variable {K : ℕ}

/-- The kernel's score of a real query row and real keys. -/
theorem score_coe (X S : Fin 1024 → Fin 512 → ℝ) (M : Fin 1024 → Fin 1024 → BitVec 32) (Wq Wk : Fin 512 → Fin 512 → ℝ) (c : ℝ)
    (q k : Fin 1024) :
    Attention.score (fun q e => (X q e : EReal)) (fun k e => (S k e : EReal)) M
        (fun e f => (∑ d, (Wq d e : EReal) * (Wk d f : EReal)) * (c : EReal)) q k
      = masked (fun k => M q k = 0#32) (kscore (X q) S Wq Wk c) k := by
  unfold Attention.score masked kscore
  simp only [coe_sum, EReal.coe_mul]

/-- The kernel's head over real inputs, for a query that sees some key. -/
theorem head_coe (X S : Fin 1024 → Fin 512 → ℝ) (M : Fin 1024 → Fin 1024 → BitVec 32) (Wq Wk Wv : Fin 512 → Fin 512 → ℝ)
    (Wp : Fin 512 → Fin 512 → ℝ) (c : ℝ) (q : Fin 1024) (hs : ∃ k, ¬ M q k = 0#32) (j : Fin 512) :
    Attention.head (fun q e => (X q e : EReal)) (fun k e => (S k e : EReal)) M
        (fun e f => (∑ d, (Wq d e : EReal) * (Wk d f : EReal)) * (c : EReal)) (fun e j => ∑ d, (Wv d e : EReal) * (Wp j d : EReal)) q j
      = ((∑ k, (weight (fun k => M q k = 0#32) (kscore (X q) S Wq Wk c) k
            / ∑ k, weight (fun k => M q k = 0#32) (kscore (X q) S Wq Wk c) k) * ∑ e, S k e * ∑ d, Wv d e * Wp j d : ℝ) : EReal) := by
  have hp := sum_pos (fun k => M q k = 0#32) (kscore (X q) S Wq Wk c) hs
  unfold Attention.head
  simp only [score_coe, exp_masked]
  rw [← coe_sum, Ideal.div_coe hp.ne', one_mul]
  simp only [← EReal.coe_mul, ← coe_sum]
  congr 1
  rw [Finset.sum_mul]
  refine Finset.sum_congr rfl fun k _ => ?_
  ring

/-- The reference's attention weight over real inputs, for a query that sees some key: the same quotient. -/
theorem weight_coe (X S : Fin 1024 → Fin 512 → ℝ) (M : Fin 1024 → Fin 1024 → BitVec 32) (Wq Wk : Fin 512 → Fin 512 → ℝ)
    (B : Fin 512 → ℝ) (c : ℝ) (q : Fin 1024) (hs : ∃ k, ¬ M q k = 0#32) (v : Fin 1024 → EReal)
    (hv : ∀ k, v k = if M q k = 0#32 then ⊥ else (rscore (X q) S Wq Wk B c k : EReal)) (k : Fin 1024) :
    Ideal.div (Ideal.exp (v k - Finset.univ.fold max ⊥ v)) (∑ k, Ideal.exp (v k - Finset.univ.fold max ⊥ v))
      = ((weight (fun k => M q k = 0#32) (kscore (X q) S Wq Wk c) k
            / ∑ k, weight (fun k => M q k = 0#32) (kscore (X q) S Wq Wk c) k : ℝ) : EReal) := by
  have hv' : v = masked (fun k => M q k = 0#32) (rscore (X q) S Wq Wk B c) := funext hv
  rw [hv', softmax_eq _ _ hs, show rscore (X q) S Wq Wk B c = _ from funext (rscore_eq (X q) S Wq Wk B c), quotient_add _ _ hs]

end Extended

end Cert.HeadEq

end
-- ==== Proof.Chunk.lean ====
/- What one grid point of the attention kernel stores: four row chunks, each the same function of its rows of the
   query block, its rows of the mask, the key block, the eight heads' matrices and the bias row. -/
module

public import proofs.«01_k».proof.Proof.Gen.KernelIdeal.Frame

@[expose] public section

set_option maxRecDepth 16384

noncomputable section

namespace Cert.KernelIdeal.Gen

open Idealize.ShloMosaic Idealize.SL.Sem

variable {F : FTy → Type} [FloatOps F] [Named F]

/-- One head's slab of a stack of eight matrices. -/
theorem slab_inb (h : Fin 8) : ∀ a, (![h.val, 0, 0] : Fin 3 → Nat) a + S1x512x512.size a ≤ S8x512x512.size a := by
  revert h; decide

/-- Head `h`'s matrix of a stack of eight. -/
def slab (x : Vec F S8x512x512 .bf16) (h : Fin 8) : Vec F S1x512x512 .bf16 :=
  View.ld x (Rect.unit (s := S8x512x512) ![h.val, 0, 0] S1x512x512.size (slab_inb h))

/-- A head's projected values: the key block times the head's value matrix. -/
def values (st : FVec F S1024x512 .bf16) (w : Vec F S1x512x512 .bf16) : FVec F S1024x512 .bf16 :=
  truncf .bf16 (matmul dot_S1024x512_S512x512_S1024x512_1_0_0_1_n_n none st
    (shapeCast S512x512 w shapeCasts_S1x512x512_S512x512) (constant S1024x512 .f32 0x00000000#32)) bitsLt_bf16_f32

/-- A head's masked and exponentiated scores of a chunk of queries against every key. -/
def weights (st : FVec F S1024x512 .bf16) (xc : FVec F S256x512 .bf16) (mz : IVec S256x1024 1)
    (w : Vec F S1x512x512 .bf16) : FVec F S256x1024 .f32 :=
  exp (select mz (broadcast S256x1024 (Named.named κ "mask" 0xF149F2CA#32))
    (matmul dot_S256x512_S1024x512_S256x1024_1_1_0_0_n_n none
      (truncf .bf16 (matmul dot_S256x512_S512x512_S256x512_1_0_0_1_n_n none xc
        (shapeCast S512x512 w shapeCasts_S1x512x512_S512x512) (constant S256x512 .f32 0x00000000#32)) bitsLt_bf16_f32)
      st (constant S256x1024 .f32 0x00000000#32)))

/-- A head's contribution to a chunk: the weighted values over the sum of the weights. -/
def contrib (st : FVec F S1024x512 .bf16) (xc : FVec F S256x512 .bf16) (mz : IVec S256x1024 1)
    (w v : Vec F S1x512x512 .bf16) : FVec F S256x512 .f32 :=
  mulf (matmul dot_S256x1024_S1024x512_S256x512_1_0_0_1_n_n none
      (truncf .bf16 (weights st xc mz w) bitsLt_bf16_f32) (values st v) (constant S256x512 .f32 0x00000000#32))
    (broadcastTo S256x512
      (divf (broadcast S256x1 (Scalar.ofBits .f32 0x3F800000#32))
        (shapeCast S256x1 (multiReduction .add [1] S256 (weights st xc mz w) 0x00000000#32 reduces_S256x1024_S256 (.inl rfl) rfl)
          shapeCasts_S256_S256x1)) broadcasts_S256x1_S256x512)

/-- What a chunk stores: the heads' contributions added in order, the bias row after the first. -/
def chunk (st : FVec F S1024x512 .bf16) (xc : FVec F S256x512 .bf16) (mz : IVec S256x1024 1)
    (w v : Fin 8 → Vec F S1x512x512 .bf16) (bp : Vec F S1x512 .f32) : FVec F S1x256x512 .f32 :=
  shapeCast S1x256x512
    (addf (addf (addf (addf (addf (addf (addf (addf (contrib st xc mz (w 0) (v 0))
      (broadcastTo S256x512 (shapeCast S1x512 bp shapeCasts_S1x512_S1x512) broadcasts_S1x512_S256x512))
      (contrib st xc mz (w 1) (v 1))) (contrib st xc mz (w 2) (v 2))) (contrib st xc mz (w 3) (v 3)))
      (contrib st xc mz (w 4) (v 4))) (contrib st xc mz (w 5) (v 5))) (contrib st xc mz (w 6) (v 6)))
      (contrib st xc mz (w 7) (v 7))) shapeCasts_S256x512_S1x256x512

/-- A chunk's rows of the query block lie inside it. -/
theorem rows_inb (o : Fin 4) : S1024x512.Slices ![256 * o.val, 0] S256x512 := by
  revert o; decide

/-- A chunk's rows of the mask block lie inside it. -/
theorem mask_inb (o : Fin 4) : ∀ a, (![0, 256 * o.val, 0] : Fin 3 → Nat) a + S1x256x1024.size a ≤ S1x1024x1024.size a := by
  revert o; decide

/-- Chunk `o`'s rows of the query block. -/
def queries (x : Vec F S1x1024x512 .f32) (o : Fin 4) : FVec F S256x512 .bf16 :=
  extractStridedSlice S256x512 ![256 * o.val, 0]
    (truncf .bf16 (shapeCast S1024x512 (View.ld x r1_0) shapeCasts_S1x1024x512_S1024x512) bitsLt_bf16_f32) (rows_inb o)

/-- The key block. -/
def keys (x : Vec F S1x1024x512 .f32) : FVec F S1024x512 .bf16 :=
  truncf .bf16 (shapeCast S1024x512 (View.ld x r1_0) shapeCasts_S1x1024x512_S1024x512) bitsLt_bf16_f32

/-- Where chunk `o`'s rows of the mask are zero. -/
def hidden (x : Vec F S1x1024x1024 .i32) (o : Fin 4) : IVec S256x1024 1 :=
  cmpi .eq (shapeCast S256x1024
    (View.ld (Val := Elt F) x (Rect.unit (s := S1x1024x1024) ![0, 256 * o.val, 0] S1x256x1024.size (mask_inb o)) : Vec F S1x256x1024 .i32)
    shapeCasts_S1x256x1024_S256x1024) (broadcast S256x1024 0#32)

/-- Chunk `o` of what a grid point stores. -/
def stored (x0 x1 : Vec F S1x1024x512 .f32) (x2 : Vec F S1x1024x1024 .i32) (x3 x4 : Vec F S8x512x512 .bf16)
    (x5 : Vec F S1x512 .f32) (o : Fin 4) : FVec F S1x256x512 .f32 :=
  chunk (keys x1) (queries x0 o) (hidden x2 o) (slab x3) (slab x4) (View.ld x5 r1_10)

set_option maxHeartbeats 4000000 in
/-- The block a grid point leaves in the output's buffer is its four stored chunks. -/
theorem out1_6_eq (x0 x1 : Vec F S1x1024x512 .f32) (x2 : Vec F S1x1024x1024 .i32) (x3 x4 : Vec F S8x512x512 .bf16)
    (x5 : Vec F S1x512 .f32) : out1_6 x0 x1 x2 x3 x4 x5 =
      View.canon [⟨r1_17, stored x0 x1 x2 x3 x4 x5 3⟩, ⟨r1_15, stored x0 x1 x2 x3 x4 x5 2⟩,
        ⟨r1_13, stored x0 x1 x2 x3 x4 x5 1⟩, ⟨r1_11, stored x0 x1 x2 x3 x4 x5 0⟩] := rfl

end Cert.KernelIdeal.Gen

end
-- ==== Proof.ChunkRead.lean ====
/- What a chunk stores, read at an index: the attention of its query row, every head's. -/
module

public import proofs.«01_k».proof.Proof.Chunk
public import proofs.«01_k».proof.Proof.Attention
public import proofs.«01_k».proof.Proof.Consts
public import Idealize.ShloMosaic.Lib.Pointwise
public import Idealize.ShloMosaic.Lib.ValueLayout

@[expose] public section

set_option maxRecDepth 16384

noncomputable section

namespace Cert.KernelIdeal.Gen

open Idealize.ShloMosaic Idealize.SL.Sem Cert.Attention

/-- A head's projected values at an index: a row of the keys against a column of the head's matrix. -/
theorem values_apply (st : FVec Ideal S1024x512 .bf16) (w : Vec Ideal S1x512x512 .bf16) (k : Fin 1024) (d : Fin 512) :
    values st w (ix2 k d) = ∑ e : Fin 512, st (ix2 k e) * w (ix3 0 e d) := by
  pointwise [values]

/-- A head's weights at an index: the exponential of the score, or of minus infinity at a hidden key. -/
theorem weights_apply (st : FVec Ideal S1024x512 .bf16) (xc : FVec Ideal S256x512 .bf16) (mz : IVec S256x1024 1)
    (w : Vec Ideal S1x512x512 .bf16) (q : Fin 256) (k : Fin 1024) :
    weights st xc mz w (ix2 q k) = Ideal.exp (Scalar.select (mz (ix2 q k)) ⊥
      (∑ f : Fin 512, (∑ e : Fin 512, xc (ix2 q e) * w (ix3 0 e f)) * st (ix2 k f))) := by
  pointwise [weights, Cert.Consts.mask_eq]

/-- A head's contribution at an index. -/
theorem contrib_apply (st : FVec Ideal S1024x512 .bf16) (xc : FVec Ideal S256x512 .bf16) (mz : IVec S256x1024 1)
    (w v : Vec Ideal S1x512x512 .bf16) (q : Fin 256) (d : Fin 512) :
    contrib st xc mz w v (ix2 q d) = (∑ k : Fin 1024, weights st xc mz w (ix2 q k) * values st v (ix2 k d))
      * Ideal.div 1 (∑ k : Fin 1024, weights st xc mz w (ix2 q k)) := by
  pointwise [contrib]

/-- A chunk's rows of the query block at an index. -/
theorem queries_apply (x : Vec Ideal S1x1024x512 .f32) (o : Fin 4) (q : Fin 256) (e : Fin 512) :
    queries x o (ix2 q e) = x (ix3 0 ⟨256 * o.val + q.val, by omega⟩ e) := by
  pointwise [queries]

/-- The key block at an index. -/
theorem keys_apply (x : Vec Ideal S1x1024x512 .f32) (k : Fin 1024) (e : Fin 512) :
    keys x (ix2 k e) = x (ix3 0 k e) := by
  pointwise [keys]

/-- A chunk's rows of the mask at an index. -/
theorem mask_apply (x : Vec Ideal S1x1024x1024 .i32) (o : Fin 4) (q : Fin 256) (k : Fin 1024) :
    (View.ld (Val := Elt Ideal) x (Rect.unit (s := S1x1024x1024) ![0, 256 * o.val, 0] S1x256x1024.size (mask_inb o)) :
      Vec Ideal S1x256x1024 .i32) (ix3 0 q k) = x (ix3 0 ⟨256 * o.val + q.val, by omega⟩ k) := by
  refine congrArg x (funext fun i => Fin.ext ?_)
  match i with
  | 0 => rfl
  | 1 => show 256 * o.val + 1 * q.val = 256 * o.val + q.val; omega
  | 2 => show 0 + 1 * k.val = k.val; omega

/-- A chunk's hidden keys at an index. -/
theorem hidden_apply (x : Vec Ideal S1x1024x1024 .i32) (o : Fin 4) (q : Fin 256) (k : Fin 1024) (u v : EReal) :
    Scalar.select (hidden (F := Ideal) x o (ix2 q k)) u v
      = if x (ix3 0 ⟨256 * o.val + q.val, by omega⟩ k) = 0#32 then u else v := by
  have hm : shapeCast S256x1024 (View.ld (Val := Elt Ideal) x
      (Rect.unit (s := S1x1024x1024) ![0, 256 * o.val, 0] S1x256x1024.size (mask_inb o)) : Vec Ideal S1x256x1024 .i32)
      shapeCasts_S1x256x1024_S256x1024 (ix2 q k) = x (ix3 0 ⟨256 * o.val + q.val, by omega⟩ k) :=
    (ValueIdx.shapeCast_1ab_ab_apply _ _ q k).trans (mask_apply x o q k)
  show Scalar.select (BitVec.ofBool (_ == _)) u v = _
  rw [hm]
  by_cases h : x (ix3 0 ⟨256 * o.val + q.val, by omega⟩ k) = 0#32
  · rw [if_pos h, h]; rfl
  · rw [if_neg h, show (x (ix3 0 ⟨256 * o.val + q.val, by omega⟩ k) == broadcast S256x1024 0#32 (ix2 q k)) = false from
      beq_eq_false_iff_ne.mpr h]
    rfl

/-- One head's matrix of the stack at an index. -/
theorem slab_apply (x : Vec Ideal S8x512x512 .bf16) (h : Fin 8) (e f : Fin 512) :
    slab x h (ix3 0 e f) = x (ix3 h e f) := by
  pointwise [slab]

/-- What a chunk stores at an index: the attention of its query row. -/
theorem stored_apply (x0 x1 : Vec Ideal S1x1024x512 .f32) (x2 : Vec Ideal S1x1024x1024 .i32)
    (x3 x4 : Vec Ideal S8x512x512 .bf16) (x5 : Vec Ideal S1x512 .f32) (o : Fin 4) (a : Fin 1) (q : Fin 256) (d : Fin 512) :
    stored x0 x1 x2 x3 x4 x5 o (ix3 a q d)
      = block (fun q e => x0 (ix3 0 q e)) (fun k e => x1 (ix3 0 k e)) (fun q k => x2 (ix3 0 q k))
          (fun h e f => x3 (ix3 h e f)) (fun h e d => x4 (ix3 h e d)) (fun d => x5 (ix2 0 d))
          ⟨256 * o.val + q.val, by omega⟩ d := by
  have hc : ∀ h : Fin 8, contrib (keys x1) (queries x0 o) (hidden x2 o) (slab x3 h) (slab x4 h) (ix2 q d)
      = head (fun q e => x0 (ix3 0 q e)) (fun k e => x1 (ix3 0 k e)) (fun q k => x2 (ix3 0 q k))
          (fun e f => x3 (ix3 h e f)) (fun e d => x4 (ix3 h e d)) ⟨256 * o.val + q.val, by omega⟩ d := fun h => by
    simp only [contrib_apply, weights_apply, values_apply, hidden_apply, queries_apply, keys_apply, slab_apply, head, score]
  pointwise [stored, chunk, hc, block]

end Cert.KernelIdeal.Gen

end
-- ==== Proof.BlockRead.lean ====
/- The block a grid point of the attention kernel leaves, read at an index: its four chunks are the one attention
   of the batch entry. -/
module

public import proofs.«01_k».proof.Proof.ChunkRead

@[expose] public section

set_option maxRecDepth 16384

noncomputable section

namespace Cert.KernelIdeal.Gen

open Idealize.ShloMosaic Idealize.SL.Sem Cert.Attention

/-- The attention of the blocks a grid point reads, at an index of its output block. -/
def attend (x0 x1 : Vec Ideal S1x1024x512 .f32) (x2 : Vec Ideal S1x1024x1024 .i32)
    (x3 x4 : Vec Ideal S8x512x512 .bf16) (x5 : Vec Ideal S1x512 .f32) (j : S1x1024x512.Idx) : EReal :=
  block (fun q e => x0 (ix3 0 q e)) (fun k e => x1 (ix3 0 k e)) (fun q k => x2 (ix3 0 q k))
    (fun h e f => x3 (ix3 h e f)) (fun h e d => x4 (ix3 h e d)) (fun d => x5 (ix2 0 d)) (j 1) (j 2)

/-- A chunk's rows of the output block lie inside it. -/
theorem rows_inb3 (o : Fin 4) : ∀ a, (![0, 256 * o.val, 0] : Fin 3 → Nat) a + S1x256x512.size a ≤ S1x1024x512.size a := by
  revert o; decide

/-- A stored chunk is the attention at the rows its rectangle names. -/
theorem stored_eq (x0 x1 : Vec Ideal S1x1024x512 .f32) (x2 : Vec Ideal S1x1024x1024 .i32)
    (x3 x4 : Vec Ideal S8x512x512 .bf16) (x5 : Vec Ideal S1x512 .f32) (o : Fin 4)
    (hb : ∀ a, (![0, 256 * o.val, 0] : Fin 3 → Nat) a + S1x256x512.size a ≤ S1x1024x512.size a) (x : S1x256x512.Idx) :
    stored x0 x1 x2 x3 x4 x5 o x
      = attend x0 x1 x2 x3 x4 x5 ((Rect.unit (s := S1x1024x512) ![0, 256 * o.val, 0] S1x256x512.size hb).emb x) := by
  obtain ⟨a, q, d, rfl⟩ : ∃ (a : Fin 1) (q : Fin 256) (d : Fin 512), x = ix3 a q d :=
    ⟨x 0, x 1, x 2, funext fun i => match i with | 0 => rfl | 1 => rfl | 2 => rfl⟩
  rw [stored_apply, attend]
  congr 1
  · apply Fin.ext; show 256 * o.val + q.val = 256 * o.val + 1 * q.val; omega
  · apply Fin.ext; show d.val = 0 + 1 * d.val; omega

/-- The block a grid point leaves in the output's buffer is the attention of the blocks it reads. -/
theorem out1_6_apply (x0 x1 : Vec Ideal S1x1024x512 .f32) (x2 : Vec Ideal S1x1024x1024 .i32)
    (x3 x4 : Vec Ideal S8x512x512 .bf16) (x5 : Vec Ideal S1x512 .f32) (j : S1x1024x512.Idx) :
    out1_6 x0 x1 x2 x3 x4 x5 j = attend x0 x1 x2 x3 x4 x5 j := by
  rw [out1_6_eq]
  refine View.canon_apply_of_pieces (Val := Elt Ideal) (e := .f32) (attend x0 x1 x2 x3 x4 x5) _ ?_ j (cover1_6 _ _ _ _ j)
  intro p hp
  simp only [List.mem_cons, List.not_mem_nil, or_false] at hp
  rcases hp with rfl | rfl | rfl | rfl
  · exact stored_eq x0 x1 x2 x3 x4 x5 3 (rows_inb3 3)
  · exact stored_eq x0 x1 x2 x3 x4 x5 2 (rows_inb3 2)
  · exact stored_eq x0 x1 x2 x3 x4 x5 1 (rows_inb3 1)
  · exact stored_eq x0 x1 x2 x3 x4 x5 0 (rows_inb3 0)

end Cert.KernelIdeal.Gen

end
-- ==== Proof.Combine.lean ====
/- What the first kernel leaves: each head's score matrix and each head's value matrix, read at an index. -/
module

public import proofs.«01_k».proof.Proof.Gen.KernelIdeal.Frame
public import proofs.«01_k».proof.Proof.Consts
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.SL.Sem
open Idealize.ShloMosaic.Pipeline (Dat)

/-- Head by head, the query projection's transpose times the key projection, scaled. -/
def scoreMats (wq wk : Vec Ideal S8x512x512 .f32) : Vec Ideal S8x512x512 .bf16 := fun i =>
  (∑ d : Fin 512, wq (ix3 (i 0) d (i 1)) * wk (ix3 (i 0) d (i 2))) * (((Real.sqrt 512)⁻¹ : ℝ) : EReal)

/-- Head by head, the value projection's transpose times the head's columns of the output projection. -/
def valueMats (wv : Vec Ideal S8x512x512 .f32) (wp : Vec Ideal S512x4096 .f32) : Vec Ideal S8x512x512 .bf16 := fun i =>
  ∑ d : Fin 512, wv (ix3 (i 0) d (i 1)) * wp (ix2 (i 2) ⟨512 * (i 0).val + d.val, by
    have h : (i 0).val < 8 := (i 0).isLt
    omega⟩)

/-- The score payload at an index. -/
theorem pay1_apply (x y : Vec Ideal S1x512x512 .f32) (a : Fin 1) (e f : Fin 512) :
    k0_pay1 x y (ix3 a e f) = (∑ d : Fin 512, x (ix3 0 d e) * y (ix3 0 d f)) * (((Real.sqrt 512)⁻¹ : ℝ) : EReal) := by
  pointwise [k0_pay1, Cert.Consts.scale_eq]

/-- The value payload at an index. -/
theorem pay2_apply (x : Vec Ideal S1x512x512 .f32) (y : Vec Ideal S512x512 .f32) (a : Fin 1) (e f : Fin 512) :
    k0_pay2 x y (ix3 a e f) = ∑ d : Fin 512, x (ix3 0 d e) * y (ix2 f d) := by
  pointwise [k0_pay2]

/-- Where each window's block lies, at every grid point. -/
theorem at0 : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = 0 ∧ win0_3.index t 1 = t.val)
    ∧ (win0_4.index t 0 = t.val ∧ win0_4.index t 1 = 0 ∧ win0_4.index t 2 = 0)
    ∧ (win0_5.index t 0 = t.val ∧ win0_5.index t 1 = 0 ∧ win0_5.index t 2 = 0) := by
  decide +kernel

/-- A grid point is a head. -/
theorem lt0 (t : Fin cfg0.N) : t.val < 8 := t.isLt.trans_eq N_0

/-- The whole block's offset, of rank three. -/
theorem hz3 : (![0, 0, 0] : Fin 3 → Nat) = fun _ => 0 := by decide

/-- The whole block's offset, of rank two. -/
theorem hz2 : (![0, 0] : Fin 2 → Nat) = fun _ => 0 := by decide

variable (V : (c : Dev nD) → (b : Ref sig .tc) → Buf (Elt Ideal) ((c : Thread nD τ).loc b))

/-- The query projection's block at an index. -/
theorem iblk0_0_apply (c : Dev nD) (t : Fin cfg0.N) (a : Fin 1) (d e : Fin 512) :
    iblk0 V c 0 t (ix3 a d e) = V c main_arg3 (ix3 ⟨t.val, lt0 t⟩ d e) := by
  obtain ⟨⟨h0, h1, h2⟩, -⟩ := at0 t
  refine congrArg (V c main_arg3) (funext fun i => Fin.ext ?_)
  match i with
  | 0 => show win0_0.index t 0 * 1 + 1 * a.val = t.val; omega
  | 1 => show win0_0.index t 1 * 512 + 1 * d.val = d.val; omega
  | 2 => show win0_0.index t 2 * 512 + 1 * e.val = e.val; omega

/-- The key projection's block at an index. -/
theorem iblk0_1_apply (c : Dev nD) (t : Fin cfg0.N) (a : Fin 1) (d e : Fin 512) :
    iblk0 V c 1 t (ix3 a d e) = V c main_arg5 (ix3 ⟨t.val, lt0 t⟩ d e) := by
  obtain ⟨-, ⟨h0, h1, h2⟩, -⟩ := at0 t
  refine congrArg (V c main_arg5) (funext fun i => Fin.ext ?_)
  match i with
  | 0 => show win0_1.index t 0 * 1 + 1 * a.val = t.val; omega
  | 1 => show win0_1.index t 1 * 512 + 1 * d.val = d.val; omega
  | 2 => show win0_1.index t 2 * 512 + 1 * e.val = e.val; omega

/-- The value projection's block at an index. -/
theorem iblk0_2_apply (c : Dev nD) (t : Fin cfg0.N) (a : Fin 1) (d e : Fin 512) :
    iblk0 V c 2 t (ix3 a d e) = V c main_arg7 (ix3 ⟨t.val, lt0 t⟩ d e) := by
  obtain ⟨-, -, ⟨h0, h1, h2⟩, -⟩ := at0 t
  refine congrArg (V c main_arg7) (funext fun i => Fin.ext ?_)
  match i with
  | 0 => show win0_2.index t 0 * 1 + 1 * a.val = t.val; omega
  | 1 => show win0_2.index t 1 * 512 + 1 * d.val = d.val; omega
  | 2 => show win0_2.index t 2 * 512 + 1 * e.val = e.val; omega

/-- The output projection's block at an index: the head's columns. -/
theorem iblk0_3_apply (c : Dev nD) (t : Fin cfg0.N) (d e : Fin 512) :
    iblk0 V c 3 t (ix2 d e) = V c main_arg9 (ix2 d ⟨512 * t.val + e.val, by have := lt0 t; omega⟩) := by
  obtain ⟨-, -, -, ⟨h0, h1⟩, -⟩ := at0 t
  refine congrArg (V c main_arg9) (funext fun i => Fin.ext ?_)
  match i with
  | 0 => show win0_3.index t 0 * 512 + 1 * d.val = d.val; omega
  | 1 => show win0_3.index t 1 * 512 + 1 * e.val = 512 * t.val + e.val; omega

/-- What a grid point writes back of the score matrices is its block of them. -/
theorem flushed0_4 (c : Dev nD) (t : Fin cfg0.N) : (dat0 V c).flushed 4 t
    = (win0_4.blk t).view.read (Elt Ideal) (scoreMats (V c main_arg3) (V c main_arg5)) := by
  show (cfg0.win 4).cut (grid0.coords t) ((dat0 V c).after 4 t) = _
  rw [after0_4]
  unfold out0_4
  rw [View.canon_unit_zero hz3, View.ld_unit_zero hz3, View.ld_unit_zero hz3]
  funext j
  obtain ⟨a, e, f, rfl⟩ : ∃ (a : Fin 1) (e f : Fin 512), j = ix3 a e f :=
    ⟨j 0, j 1, j 2, funext fun i => match i with | 0 => rfl | 1 => rfl | 2 => rfl⟩
  obtain ⟨-, -, -, -, ⟨h0, h1, h2⟩, -⟩ := at0 t
  have hi : (win0_4.rect t).emb (ix3 a e f) = ix3 (⟨t.val, lt0 t⟩ : Fin 8) e f := funext fun i => Fin.ext (by
    match i with
    | 0 => show win0_4.index t 0 * 1 + 1 * a.val = t.val; omega
    | 1 => show win0_4.index t 1 * 512 + 1 * e.val = e.val; omega
    | 2 => show win0_4.index t 2 * 512 + 1 * f.val = f.val; omega)
  refine Eq.trans ?_ (congrArg (scoreMats (V c main_arg3) (V c main_arg5)) hi).symm
  refine Eq.trans (pay1_apply _ _ a e f) ?_
  simp only [iblk0_0_apply, iblk0_1_apply]
  rfl

/-- What a grid point writes back of the value matrices is its block of them. -/
theorem flushed0_5 (c : Dev nD) (t : Fin cfg0.N) : (dat0 V c).flushed 5 t
    = (win0_5.blk t).view.read (Elt Ideal) (valueMats (V c main_arg7) (V c main_arg9)) := by
  show (cfg0.win 5).cut (grid0.coords t) ((dat0 V c).after 5 t) = _
  rw [after0_5]
  unfold out0_5
  rw [View.canon_unit_zero hz3, View.ld_unit_zero hz3, View.ld_unit_zero hz2]
  funext j
  obtain ⟨a, e, f, rfl⟩ : ∃ (a : Fin 1) (e f : Fin 512), j = ix3 a e f :=
    ⟨j 0, j 1, j 2, funext fun i => match i with | 0 => rfl | 1 => rfl | 2 => rfl⟩
  obtain ⟨-, -, -, -, -, ⟨h0, h1, h2⟩⟩ := at0 t
  have hi : (win0_5.rect t).emb (ix3 a e f) = ix3 (⟨t.val, lt0 t⟩ : Fin 8) e f := funext fun i => Fin.ext (by
    match i with
    | 0 => show win0_5.index t 0 * 1 + 1 * a.val = t.val; omega
    | 1 => show win0_5.index t 1 * 512 + 1 * e.val = e.val; omega
    | 2 => show win0_5.index t 2 * 512 + 1 * f.val = f.val; omega)
  refine Eq.trans ?_ (congrArg (valueMats (V c main_arg7) (V c main_arg9)) hi).symm
  refine Eq.trans (pay2_apply _ _ a e f) ?_
  simp only [iblk0_2_apply, iblk0_3_apply]
  rfl

/-- An index of the score matrices is in the block of its head's grid point. -/
theorem cover_0_4 (i : S8x512x512.Idx) :
    ∃ t : Fin cfg0.N, (cfg0.win 4).flush t = true ∧ i ∈ ((cfg0.win 4).blk t).view.set := by
  have b0 : (i 0).val < 8 := (i 0).isLt
  have b1 : (i 1).val < 512 := (i 1).isLt
  have b2 : (i 2).val < 512 := (i 2).isLt
  obtain ⟨t, ht⟩ : ∃ t : Fin grid0.N, t.val = (i 0).val := ⟨⟨(i 0).val, by rw [N_0]; exact b0⟩, rfl⟩
  refine ⟨t, flush0_4 t, ?_⟩
  obtain ⟨-, -, -, -, ⟨h0, h1, h2⟩, -⟩ := at0 t
  show i ∈ ((View.whole main_v1_0).slice (win0_4.rect t)).set
  rw [View.set_slice_whole, Rect.mem_set_unit]
  intro a
  match a with
  | 0 => show win0_4.index t 0 * 1 ≤ (i 0).val ∧ (i 0).val < win0_4.index t 0 * 1 + 1; omega
  | 1 => show win0_4.index t 1 * 512 ≤ (i 1).val ∧ (i 1).val < win0_4.index t 1 * 512 + 512; omega
  | 2 => show win0_4.index t 2 * 512 ≤ (i 2).val ∧ (i 2).val < win0_4.index t 2 * 512 + 512; omega

/-- An index of the value matrices is in the block of its head's grid point. -/
theorem cover_0_5 (i : S8x512x512.Idx) :
    ∃ t : Fin cfg0.N, (cfg0.win 5).flush t = true ∧ i ∈ ((cfg0.win 5).blk t).view.set := by
  have b0 : (i 0).val < 8 := (i 0).isLt
  have b1 : (i 1).val < 512 := (i 1).isLt
  have b2 : (i 2).val < 512 := (i 2).isLt
  obtain ⟨t, ht⟩ : ∃ t : Fin grid0.N, t.val = (i 0).val := ⟨⟨(i 0).val, by rw [N_0]; exact b0⟩, rfl⟩
  refine ⟨t, flush0_5 t, ?_⟩
  obtain ⟨-, -, -, -, -, ⟨h0, h1, h2⟩⟩ := at0 t
  show i ∈ ((View.whole main_v1_1).slice (win0_5.rect t)).set
  rw [View.set_slice_whole, Rect.mem_set_unit]
  intro a
  match a with
  | 0 => show win0_5.index t 0 * 1 ≤ (i 0).val ∧ (i 0).val < win0_5.index t 0 * 1 + 1; omega
  | 1 => show win0_5.index t 1 * 512 ≤ (i 1).val ∧ (i 1).val < win0_5.index t 1 * 512 + 512; omega
  | 2 => show win0_5.index t 2 * 512 ≤ (i 2).val ∧ (i 2).val < win0_5.index t 2 * 512 + 512; omega

/-- The first result of the first kernel: the score matrices. -/
theorem final0_4 (c : Dev nD) : (dat0 V c).arrAt 4 cfg0.N = scoreMats (V c main_arg3) (V c main_arg5) :=
  (dat0 V c).arrAt_eq_of_cover 4 _ (fun t _ => flushed0_4 V c t) cover_0_4

/-- The second result of the first kernel: the value matrices. -/
theorem final0_5 (c : Dev nD) : (dat0 V c).arrAt 5 cfg0.N = valueMats (V c main_arg7) (V c main_arg9) :=
  (dat0 V c).arrAt_eq_of_cover 5 _ (fun t _ => flushed0_5 V c t) cover_0_5

end Cert.KernelIdeal.Gen

end
-- ==== Proof.Attend.lean ====
/- What the attention kernel leaves, read at an index: the attention of the arguments, through the matrices the first
   kernel left. -/
module

public import proofs.«01_k».proof.Proof.BlockRead
public import proofs.«01_k».proof.Proof.Combine

@[expose] public section

set_option maxRecDepth 16384

noncomputable section

namespace Cert.KernelIdeal.Gen

open Idealize.ShloMosaic Idealize.ShloMosaic.TcCoe Idealize.SL.Sem Cert.Attention
open Idealize.ShloMosaic.Pipeline (Dat)

/-- Where each window's block lies, at every grid point. -/
theorem at1 : ∀ t : Fin grid1.N,
    (win1_0.index t 0 = t.val ∧ win1_0.index t 1 = 0 ∧ win1_0.index t 2 = 0)
    ∧ (win1_1.index t 0 = t.val ∧ win1_1.index t 1 = 0 ∧ win1_1.index t 2 = 0)
    ∧ (win1_2.index t 0 = t.val ∧ win1_2.index t 1 = 0 ∧ win1_2.index t 2 = 0)
    ∧ (win1_3.index t 0 = 0 ∧ win1_3.index t 1 = 0 ∧ win1_3.index t 2 = 0)
    ∧ (win1_4.index t 0 = 0 ∧ win1_4.index t 1 = 0 ∧ win1_4.index t 2 = 0)
    ∧ (win1_5.index t 0 = 0 ∧ win1_5.index t 1 = 0)
    ∧ (win1_6.index t 0 = t.val ∧ win1_6.index t 1 = 0 ∧ win1_6.index t 2 = 0) := by
  decide +kernel

/-- A grid point is a batch entry. -/
theorem lt1 (t : Fin cfg1.N) : t.val < 8 := t.isLt.trans_eq N_1

variable (V : (c : Dev nD) → (b : Ref sig .tc) → Buf (Elt Ideal) ((c : Thread nD τ).loc b))

/-- The queries' block at an index. -/
theorem iblk1_0_apply (c : Dev nD) (t : Fin cfg1.N) (a : Fin 1) (p : Fin 1024) (e : Fin 512) :
    iblk1 V c 0 t (ix3 a p e) = V c main_arg0 (ix3 ⟨t.val, lt1 t⟩ p e) := by
  obtain ⟨⟨h0, h1, h2⟩, -⟩ := at1 t
  refine congrArg (V c main_arg0) (funext fun i => Fin.ext ?_)
  match i with
  | 0 => show win1_0.index t 0 * 1 + 1 * a.val = t.val; omega
  | 1 => show win1_0.index t 1 * 1024 + 1 * p.val = p.val; omega
  | 2 => show win1_0.index t 2 * 512 + 1 * e.val = e.val; omega

/-- The keys' block at an index. -/
theorem iblk1_1_apply (c : Dev nD) (t : Fin cfg1.N) (a : Fin 1) (p : Fin 1024) (e : Fin 512) :
    iblk1 V c 1 t (ix3 a p e) = V c main_arg1 (ix3 ⟨t.val, lt1 t⟩ p e) := by
  obtain ⟨-, ⟨h0, h1, h2⟩, -⟩ := at1 t
  refine congrArg (V c main_arg1) (funext fun i => Fin.ext ?_)
  match i with
  | 0 => show win1_1.index t 0 * 1 + 1 * a.val = t.val; omega
  | 1 => show win1_1.index t 1 * 1024 + 1 * p.val = p.val; omega
  | 2 => show win1_1.index t 2 * 512 + 1 * e.val = e.val; omega

/-- The mask's block at an index. -/
theorem iblk1_2_apply (c : Dev nD) (t : Fin cfg1.N) (a : Fin 1) (p : Fin 1024) (e : Fin 1024) :
    iblk1 V c 2 t (ix3 a p e) = V c main_arg2 (ix3 ⟨t.val, lt1 t⟩ p e) := by
  obtain ⟨-, -, ⟨h0, h1, h2⟩, -⟩ := at1 t
  refine congrArg (V c main_arg2) (funext fun i => Fin.ext ?_)
  match i with
  | 0 => show win1_2.index t 0 * 1 + 1 * a.val = t.val; omega
  | 1 => show win1_2.index t 1 * 1024 + 1 * p.val = p.val; omega
  | 2 => show win1_2.index t 2 * 1024 + 1 * e.val = e.val; omega

/-- The score matrices' block at an index: all of them. -/
theorem iblk1_3_apply (c : Dev nD) (t : Fin cfg1.N) (a : Fin 8) (p e : Fin 512) :
    iblk1 V c 3 t (ix3 a p e) = V c main_v1_0 (ix3 a p e) := by
  obtain ⟨-, -, -, ⟨h0, h1, h2⟩, -⟩ := at1 t
  refine congrArg (V c main_v1_0) (funext fun i => Fin.ext ?_)
  match i with
  | 0 => show win1_3.index t 0 * 8 + 1 * a.val = a.val; omega
  | 1 => show win1_3.index t 1 * 512 + 1 * p.val = p.val; omega
  | 2 => show win1_3.index t 2 * 512 + 1 * e.val = e.val; omega

/-- The value matrices' block at an index: all of them. -/
theorem iblk1_4_apply (c : Dev nD) (t : Fin cfg1.N) (a : Fin 8) (p e : Fin 512) :
    iblk1 V c 4 t (ix3 a p e) = V c main_v1_1 (ix3 a p e) := by
  obtain ⟨-, -, -, -, ⟨h0, h1, h2⟩, -⟩ := at1 t
  refine congrArg (V c main_v1_1) (funext fun i => Fin.ext ?_)
  match i with
  | 0 => show win1_4.index t 0 * 8 + 1 * a.val = a.val; omega
  | 1 => show win1_4.index t 1 * 512 + 1 * p.val = p.val; omega
  | 2 => show win1_4.index t 2 * 512 + 1 * e.val = e.val; omega

/-- The bias row's block at an index: all of it. -/
theorem iblk1_5_apply (c : Dev nD) (t : Fin cfg1.N) (a : Fin 1) (d : Fin 512) :
    iblk1 V c 5 t (ix2 a d) = V c main_v0 (ix2 a d) := by
  obtain ⟨-, -, -, -, -, ⟨h0, h1⟩, -⟩ := at1 t
  refine congrArg (V c main_v0) (funext fun i => Fin.ext ?_)
  match i with
  | 0 => show win1_5.index t 0 * 1 + 1 * a.val = a.val; omega
  | 1 => show win1_5.index t 1 * 512 + 1 * d.val = d.val; omega

/-- The attention of whole arrays, batch entry by batch entry. -/
def attendAll (x st : Vec Ideal S8x1024x512 .f32) (mk : Vec Ideal S8x1024x1024 .i32) (w v : Vec Ideal S8x512x512 .bf16)
    (b : Vec Ideal S1x512 .f32) : Vec Ideal S8x1024x512 .f32 := fun i =>
  block (fun q e => x (ix3 (i 0) q e)) (fun k e => st (ix3 (i 0) k e)) (fun q k => mk (ix3 (i 0) q k))
    (fun h e f => w (ix3 h e f)) (fun h e d => v (ix3 h e d)) (fun d => b (ix2 0 d)) (i 1) (i 2)

/-- What a grid point writes back is its batch entry's attention. -/
theorem flushed1_6 (c : Dev nD) (t : Fin cfg1.N) : (dat1 V c).flushed 6 t
    = (win1_6.blk t).view.read (Elt Ideal) (attendAll (V c main_arg0) (V c main_arg1) (V c main_arg2) (V c main_v1_0)
      (V c main_v1_1) (V c main_v0)) := by
  show (cfg1.win 6).cut (grid1.coords t) ((dat1 V c).after 6 t) = _
  rw [after1_6]
  funext j
  obtain ⟨a, q, d, rfl⟩ : ∃ (a : Fin 1) (q : Fin 1024) (d : Fin 512), j = ix3 a q d :=
    ⟨j 0, j 1, j 2, funext fun i => match i with | 0 => rfl | 1 => rfl | 2 => rfl⟩
  obtain ⟨-, -, -, -, -, -, ⟨h0, h1, h2⟩⟩ := at1 t
  have hi : (win1_6.rect t).emb (ix3 a q d) = ix3 (⟨t.val, lt1 t⟩ : Fin 8) q d := funext fun i => Fin.ext (by
    match i with
    | 0 => show win1_6.index t 0 * 1 + 1 * a.val = t.val; omega
    | 1 => show win1_6.index t 1 * 1024 + 1 * q.val = q.val; omega
    | 2 => show win1_6.index t 2 * 512 + 1 * d.val = d.val; omega)
  refine Eq.trans ?_ (congrArg (attendAll (V c main_arg0) (V c main_arg1) (V c main_arg2) (V c main_v1_0)
      (V c main_v1_1) (V c main_v0)) hi).symm
  refine Eq.trans (out1_6_apply _ _ _ _ _ _ (ix3 a q d)) ?_
  unfold attend attendAll
  simp only [iblk1_0_apply, iblk1_1_apply, iblk1_2_apply, iblk1_3_apply, iblk1_4_apply, iblk1_5_apply]
  rfl

/-- An index of the result is in the block of its batch entry's grid point. -/
theorem cover_1_6 (i : S8x1024x512.Idx) :
    ∃ t : Fin cfg1.N, (cfg1.win 6).flush t = true ∧ i ∈ ((cfg1.win 6).blk t).view.set := by
  have b0 : (i 0).val < 8 := (i 0).isLt
  have b1 : (i 1).val < 1024 := (i 1).isLt
  have b2 : (i 2).val < 512 := (i 2).isLt
  obtain ⟨t, ht⟩ : ∃ t : Fin grid1.N, t.val = (i 0).val := ⟨⟨(i 0).val, by rw [N_1]; exact b0⟩, rfl⟩
  refine ⟨t, flush1_6 t, ?_⟩
  obtain ⟨-, -, -, -, -, -, ⟨h0, h1, h2⟩⟩ := at1 t
  show i ∈ ((View.whole main_v2).slice (win1_6.rect t)).set
  rw [View.set_slice_whole, Rect.mem_set_unit]
  intro a
  match a with
  | 0 => show win1_6.index t 0 * 1 ≤ (i 0).val ∧ (i 0).val < win1_6.index t 0 * 1 + 1; omega
  | 1 => show win1_6.index t 1 * 1024 ≤ (i 1).val ∧ (i 1).val < win1_6.index t 1 * 1024 + 1024; omega
  | 2 => show win1_6.index t 2 * 512 ≤ (i 2).val ∧ (i 2).val < win1_6.index t 2 * 512 + 512; omega

/-- The result of the attention kernel, from what it was entered with. -/
theorem final1_6 (c : Dev nD) : (dat1 V c).arrAt 6 cfg1.N = attendAll (V c main_arg0) (V c main_arg1) (V c main_arg2)
    (V c main_v1_0) (V c main_v1_1) (V c main_v0) :=
  (dat1 V c).arrAt_eq_of_cover 6 _ (fun t _ => flushed1_6 V c t) cover_1_6

/-- The result of the two kernels on the arguments. -/
def result (x st : Vec Ideal S8x1024x512 .f32) (mk : Vec Ideal S8x1024x1024 .i32) (wq wk wv : Vec Ideal S8x512x512 .f32)
    (wp : Vec Ideal S512x4096 .f32) (b : Vec Ideal S512 .f32) : Vec Ideal S8x1024x512 .f32 := fun i =>
  block (fun q e => x (ix3 (i 0) q e)) (fun k e => st (ix3 (i 0) k e)) (fun q k => mk (ix3 (i 0) q k))
    (fun h e f => scoreMats wq wk (ix3 h e f)) (fun h e d => valueMats wv wp (ix3 h e d)) (fun d => b (ix1 d)) (i 1) (i 2)

variable (m : (ℓ : Loc nD τ sig) → Buf (Elt Ideal) ℓ) (ρ : Dev nD → PrngReg)

/-- The bias row before the attention kernel: the bias argument with a leading axis. -/
theorem V2_main_v0 (c : Dev nD) (d : Fin 512) :
    V2 m ρ c main_v0 (ix2 0 d) = m ((c : Thread nD τ).loc main_arg10) (ix1 d) := by
  have h : V2 m ρ c main_v0 = W1 m ρ c (Proc.devRef .tc main_v0) := W2_of m ρ c main_v0 (by decide)
  rw [h]
  have h' : W1 m ρ c (Proc.devRef .tc main_v0) = shapeCast S1x512 (m ((c : Thread nD τ).loc main_arg10)) shapeCasts_S512_S1x512 := rfl
  rw [h']
  pointwise

/-- The result array after both kernels, from the arguments. -/
theorem final (c : Dev nD) : (dat1 (V2 m ρ) c).arrAt 6 cfg1.N
    = result (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg7))
        (m ((c : Thread nD τ).loc main_arg9)) (m ((c : Thread nD τ).loc main_arg10)) := by
  have e0 : V2 m ρ c main_arg0 = m ((c : Thread nD τ).loc main_arg0) := W2_args m ρ c main_arg0 (by decide)
  have e1 : V2 m ρ c main_arg1 = m ((c : Thread nD τ).loc main_arg1) := W2_args m ρ c main_arg1 (by decide)
  have e2 : V2 m ρ c main_arg2 = m ((c : Thread nD τ).loc main_arg2) := W2_args m ρ c main_arg2 (by decide)
  have f3 : V1 m ρ c main_arg3 = m ((c : Thread nD τ).loc main_arg3) := W1_args m ρ c main_arg3 (by decide)
  have f5 : V1 m ρ c main_arg5 = m ((c : Thread nD τ).loc main_arg5) := W1_args m ρ c main_arg5 (by decide)
  have f7 : V1 m ρ c main_arg7 = m ((c : Thread nD τ).loc main_arg7) := W1_args m ρ c main_arg7 (by decide)
  have f9 : V1 m ρ c main_arg9 = m ((c : Thread nD τ).loc main_arg9) := W1_args m ρ c main_arg9 (by decide)
  have e3 : V2 m ρ c main_v1_0 = scoreMats (m ((c : Thread nD τ).loc main_arg3)) (m ((c : Thread nD τ).loc main_arg5)) :=
    (W2_arr m ρ c 4).trans ((final0_4 (V1 m ρ) c).trans (by rw [f3, f5]))
  have e4 : V2 m ρ c main_v1_1 = valueMats (m ((c : Thread nD τ).loc main_arg7)) (m ((c : Thread nD τ).loc main_arg9)) :=
    (W2_arr m ρ c 5).trans ((final0_5 (V1 m ρ) c).trans (by rw [f7, f9]))
  rw [final1_6, e0, e1, e2, e3, e4]
  exact funext fun i => congrArg (fun b => block _ _ _ _ _ b _ _) (funext fun d => V2_main_v0 m ρ c d)

end Cert.KernelIdeal.Gen

end
-- ==== Proof.Equation.lean ====
/- The equation: over real inputs, with the biases the kernel leaves out zero and every query seeing some key, the
   reference's result is the kernel's. -/
module

public import proofs.«01_k».proof.Proof.RefResult
public import proofs.«01_k».proof.Proof.HeadEq
public import proofs.«01_k».proof.Proof.Attend

@[expose] public section

set_option maxRecDepth 16384

noncomputable section

namespace Cert.Equation

open Idealize.ShloMosaic Cert.Softmax Cert.HeadEq Cert.ReferenceIdeal.Read
open Cert.ReferenceIdeal (S8x1024x512 S8x1024x1024 S8x512x512 S8x512 S512x4096 S512)

section Reals

variable (x st : S8x1024x512.Idx → ℝ) (mk : Vec Ideal S8x1024x1024 .i32) (wq wk wv : S8x512x512.Idx → ℝ)
  (bq : Vec Ideal S8x512 .f32) (bk : S8x512.Idx → ℝ) (bv : Vec Ideal S8x512 .f32) (wp : S512x4096.Idx → ℝ) (bp : Vec Ideal S512 .f32)

/-- The reference's score over real inputs. -/
theorem score_real (hq : ∀ i, bq i = (0 : EReal)) (b h : Fin 8) (q k : Fin 1024) :
    val_main_v21 (F := Ideal) (fun i => (x i : EReal)) (fun i => (st i : EReal)) (fun i => (wq i : EReal)) bq
        (fun i => (wk i : EReal)) (fun i => (bk i : EReal)) (ix4 b h q k)
      = (rscore (fun e => x (ix3 b q e)) (fun k e => st (ix3 b k e)) (fun d e => wq (ix3 h d e)) (fun d e => wk (ix3 h d e))
          (fun d => bk (ix2 h d)) (Real.sqrt 512)⁻¹ k : EReal) := by
  rw [score_apply, Ideal.sqrt_coe, if_neg (by norm_num), Ideal.div_coe (by positivity)]
  simp only [query_apply, key_apply, hq, add_zero, ← EReal.coe_mul, ← coe_sum, ← EReal.coe_add, one_div]
  rfl

/-- A head's part of the reference's result over real inputs is the kernel's head. -/
theorem head_real (hq : ∀ i, bq i = (0 : EReal)) (hv : ∀ i, bv i = (0 : EReal)) (b h : Fin 8) (q : Fin 1024) (j : Fin 512)
    (hs : ∃ k : Fin 1024, ¬ mk (ix3 b q k) = 0#32) :
    (∑ d : Fin 512, val_main_v37 (F := Ideal) (fun i => (x i : EReal)) (fun i => (st i : EReal)) mk (fun i => (wq i : EReal)) bq
        (fun i => (wk i : EReal)) (fun i => (bk i : EReal)) (fun i => (wv i : EReal)) bv (ix4 b h q d)
          * (wp (ix2 j ⟨512 * h.val + d.val, by omega⟩) : EReal))
      = Attention.head (fun q e => (x (ix3 b q e) : EReal)) (fun k e => (st (ix3 b k e) : EReal)) (fun q k => mk (ix3 b q k))
          (fun e f => (∑ d : Fin 512, (wq (ix3 h d e) : EReal) * (wk (ix3 h d f) : EReal)) * ((Real.sqrt 512)⁻¹ : ℝ))
          (fun e j => ∑ d : Fin 512, (wv (ix3 h d e) : EReal) * (wp (ix2 j ⟨512 * h.val + d.val, by omega⟩) : EReal)) q j := by
  rw [head_coe (fun q e => x (ix3 b q e)) (fun k e => st (ix3 b k e)) (fun q k => mk (ix3 b q k)) (fun d e => wq (ix3 h d e))
    (fun d e => wk (ix3 h d e)) (fun d e => wv (ix3 h d e)) (fun j d => wp (ix2 j ⟨512 * h.val + d.val, by omega⟩))
    (Real.sqrt 512)⁻¹ q hs j, ← values_eq]
  have hw := weight_coe (fun q e => x (ix3 b q e)) (fun k e => st (ix3 b k e)) (fun q k => mk (ix3 b q k)) (fun d e => wq (ix3 h d e))
    (fun d e => wk (ix3 h d e)) (fun d => bk (ix2 h d)) (Real.sqrt 512)⁻¹ q hs _ fun k =>
      (masked_apply (fun i => (x i : EReal)) (fun i => (st i : EReal)) mk (fun i => (wq i : EReal)) bq
        (fun i => (wk i : EReal)) (fun i => (bk i : EReal)) b h q k).trans (by rw [score_real x st wq wk bq bk hq])
  simp only [context_apply, weight_apply, exp_apply, max_apply, hw, value_apply, hv, add_zero, ← EReal.coe_mul, ← coe_sum]

/-- The reference's result over real inputs is the kernel's. -/
theorem result_real (hq : ∀ i, bq i = (0 : EReal)) (hv : ∀ i, bv i = (0 : EReal))
    (hs : ∀ (b : Fin 8) (q : Fin 1024), ∃ k : Fin 1024, ¬ mk (ix3 b q k) = 0#32) :
    val_main_v44 (F := Ideal) (fun i => (x i : EReal)) (fun i => (st i : EReal)) mk (fun i => (wq i : EReal)) bq
        (fun i => (wk i : EReal)) (fun i => (bk i : EReal)) (fun i => (wv i : EReal)) bv (fun i => (wp i : EReal)) bp
      = KernelIdeal.Gen.result (fun i => (x i : EReal)) (fun i => (st i : EReal)) mk (fun i => (wq i : EReal))
        (fun i => (wk i : EReal)) (fun i => (wv i : EReal)) (fun i => (wp i : EReal)) bp := by
  funext i
  obtain ⟨b, q, j, rfl⟩ : ∃ (b : Fin 8) (q : Fin 1024) (j : Fin 512), i = ix3 b q j :=
    ⟨i 0, i 1, i 2, funext fun a => match a with | 0 => rfl | 1 => rfl | 2 => rfl⟩
  rw [result_apply]
  simp only [head_real x st mk wq wk wv bq bk bv wp hq hv b _ q j (hs b q)]
  exact (Attention.block_eq_sum (fun q e => (x (ix3 b q e) : EReal)) (fun k e => (st (ix3 b k e) : EReal)) (fun q k => mk (ix3 b q k))
    (fun h e f => (∑ d : Fin 512, (wq (ix3 h d e) : EReal) * (wk (ix3 h d f) : EReal)) * ((Real.sqrt 512)⁻¹ : ℝ))
    (fun h e j => ∑ d : Fin 512, (wv (ix3 h d e) : EReal) * (wp (ix2 j ⟨512 * h.val + d.val, by omega⟩) : EReal))
    (fun j => bp (ix1 j)) q j).symm

end Reals

/-- The reference's result is the kernel's wherever the precondition's facts hold. -/
theorem result_eq (x st : Vec Ideal S8x1024x512 .f32) (mk : Vec Ideal S8x1024x1024 .i32) (wq : Vec Ideal S8x512x512 .f32)
    (bq : Vec Ideal S8x512 .f32) (wk : Vec Ideal S8x512x512 .f32) (bk : Vec Ideal S8x512 .f32) (wv : Vec Ideal S8x512x512 .f32)
    (bv : Vec Ideal S8x512 .f32) (wp : Vec Ideal S512x4096 .f32) (bp : Vec Ideal S512 .f32)
    (hx : ∀ i, ∃ r : ℝ, x i = (r : EReal)) (hst : ∀ i, ∃ r : ℝ, st i = (r : EReal)) (hwq : ∀ i, ∃ r : ℝ, wq i = (r : EReal))
    (hwk : ∀ i, ∃ r : ℝ, wk i = (r : EReal)) (hwv : ∀ i, ∃ r : ℝ, wv i = (r : EReal)) (hwp : ∀ i, ∃ r : ℝ, wp i = (r : EReal))
    (hbk : ∀ i, ∃ r : ℝ, bk i = (r : EReal)) (hq : ∀ i, bq i = (0 : EReal)) (hv : ∀ i, bv i = (0 : EReal))
    (hs : ∀ (b : Fin 8) (q : Fin 1024), ∃ k : Fin 1024, ¬ mk (ix3 b q k) = 0#32) :
    val_main_v44 (F := Ideal) x st mk wq bq wk bk wv bv wp bp = KernelIdeal.Gen.result x st mk wq wk wv wp bp := by
  choose x' ex using hx
  choose st' est using hst
  choose wq' ewq using hwq
  choose wk' ewk using hwk
  choose wv' ewv using hwv
  choose wp' ewp using hwp
  choose bk' ebk using hbk
  obtain rfl := funext ex
  obtain rfl := funext est
  obtain rfl := funext ewq
  obtain rfl := funext ewk
  obtain rfl := funext ewv
  obtain rfl := funext ewp
  obtain rfl := funext ebk
  exact result_real x' st' mk wq' wk' wv' bq bk' bv wp' bp hq hv hs

end Cert.Equation

end
-- ==== Proof.lean ====
/- The certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments as launched and has no semaphore to leave raised. -/
theorem frame_reference : Cert.quiescent_ReferenceIdeal := fun m ρ _ =>
  (θ_run _ _ _).mono (fun _ h => ⟨fun c => (h c).2, sem_eq_zero_of_no_sems (by decide) _⟩)
    (Cert.ReferenceIdeal.Value.run m ρ)

/-- Each constant of the kernel that is read at its true value has the bits of that value rounded: the scale and
    the mask filler. -/
theorem preserves : Cert.preserves_Kernel_KernelIdeal :=
  ⟨IdealRules.named_const.statement Cert.KernelIdeal.κ "scale" .f32 0x3D3504F3#32 (((Real.sqrt 512)⁻¹ : ℝ) : EReal) rfl,
   IdealRules.named_const.statement Cert.KernelIdeal.κ "mask" .f32 0xF149F2CA#32 ⊥ rfl⟩

/-- Under the precondition, on equal arguments, the kernel at its ideal constants and the reference return equal arrays. -/
theorem algebraic : Cert.algebraic_KernelIdeal_ReferenceIdeal_pre_inputs_ok := fun m ρ m' ρ' hpre hag =>
  ⟨fun c => Cert.KernelIdeal.Gen.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    (θ_run _ _ _).mono (fun _ h c => ⟨(h c).1.trans (Cert.KernelIdeal.Gen.final m ρ c), (h c).2⟩) (Cert.KernelIdeal.Gen.value_run m ρ),
    (θ_run _ _ _).mono (fun _ h c => by
      obtain ⟨⟨hx, hst, hwq, hwk, hwv, hwp, hbk⟩, ⟨hq, hv⟩, hs⟩ := Cert.Pre_inputs_ok.of_fn _ _ _ _ _ _ _ _ _ _ _ (hpre c)
      obtain ⟨e0, e1, e2, e3, e4, e5, e6, e7, e8, e9, e10⟩ := hag c
      refine ⟨((h c).1.trans (Cert.ReferenceIdeal.Read.val_main_v44_eq m' c)).trans ?_, (h c).2⟩
      rw [e0, e1, e2, e3, e4, e5, e6, e7, e8, e9, e10]
      exact Cert.Equation.result_eq _ _ _ _ _ _ _ _ _ _ _ hx hst hwq hwk hwv hwp hbk hq hv hs)
      (Cert.ReferenceIdeal.Value.run m' ρ')⟩

/-- The certificate: every claim, at the witnesses of the side conditions. -/
theorem claim : Cert.Claim := ⟨Cert.Kernel.Gen.facts, Cert.KernelIdeal.Gen.facts, Cert.ReferenceIdeal.Gen.facts,
  Cert.Pre_inputs_ok.facts, fun m ρ _ => Cert.Kernel.Gen.frame m ρ, fun m ρ _ => Cert.KernelIdeal.Gen.frame m ρ,
  fun m ρ _ => Cert.KernelIdeal.Gen.frame m ρ, frame_reference,
  fun m ρ _ => frame_reference m ρ trivial, preserves, algebraic⟩

end Cert.Proof

end
